-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel2_Kernel2Ideal : Prop :=
  IdealRules.named_const.Statement Cert.Kernel2Ideal.κ "gelu_root_cube" .f32 0x3D122279#32 ((80338380498831 / 2251799813685248 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)) (v6 : (c : Dev Cert.Kernel3Ideal.nD) → Buf (Elt Ideal) ((c.tc : Thread Cert.Kernel3Ideal.nD Cert.Kernel3Ideal.τ).loc Cert.Kernel3Ideal.main_v13_6)) (v7 : (c : Dev Cert.Kernel3Ideal.nD) → Buf (Elt Ideal) ((c.tc : Thread Cert.Kernel3Ideal.nD Cert.Kernel3Ideal.τ).loc Cert.Kernel3Ideal.main_v13_7)) (v8 : (c : Dev Cert.Kernel3Ideal.nD) → Buf (Elt Ideal) ((c.tc : Thread Cert.Kernel3Ideal.nD Cert.Kernel3Ideal.τ).loc Cert.Kernel3Ideal.main_v13_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_v13_6) = v6 c
          ∧ r.2.mem ((c.tc : Thread Cert.Kernel3Ideal.nD Cert.Kernel3Ideal.τ).loc Cert.Kernel3Ideal.main_v13_7) = v7 c
          ∧ r.2.mem ((c.tc : Thread Cert.Kernel3Ideal.nD Cert.Kernel3Ideal.τ).loc Cert.Kernel3Ideal.main_v13_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_v77) = v3 c
          ∧ r.2.mem ((c.tc : Thread Cert.Reference3Ideal.nD Cert.Reference3Ideal.τ).loc Cert.Reference3Ideal.main_v89) = v4 c
          ∧ r.2.mem ((c.tc : Thread Cert.Reference3Ideal.nD Cert.Reference3Ideal.τ).loc Cert.Reference3Ideal.main_v90) = v5 c
          ∧ r.2.mem ((c.tc : Thread Cert.Reference3Ideal.nD Cert.Reference3Ideal.τ).loc Cert.Reference3Ideal.main_v91) = v6 c
          ∧ r.2.mem ((c.tc : Thread Cert.Reference3Ideal.nD Cert.Reference3Ideal.τ).loc Cert.Reference3Ideal.main_v92) = v7 c
          ∧ r.2.mem ((c.tc : Thread Cert.Reference3Ideal.nD Cert.Reference3Ideal.τ).loc Cert.Reference3Ideal.main_v93) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "gelu_root_cube" .f32 0x3D122279#32 ((80338380498831 / 2251799813685248 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel2.lean ====
abbrev S16384x1024 : Shape := ⟨2, ![16384, 1024]⟩
abbrev S16x2816 : Shape := ⟨2, ![16, 2816]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S1024x256 : Shape := ⟨2, ![1024, 256]⟩
abbrev S1024x4096 : Shape := ⟨2, ![1024, 4096]⟩
abbrev S1024x1536 : Shape := ⟨2, ![1024, 1536]⟩
abbrev S1x2816x1024 : Shape := ⟨3, ![1, 2816, 1024]⟩
abbrev S2816x1024 : Shape := ⟨2, ![2816, 1024]⟩
abbrev S_ : Shape := ⟨0, ![]⟩
abbrev S2x1x1024 : Shape := ⟨3, ![2, 1, 1024]⟩
abbrev S2x1x2816 : Shape := ⟨3, ![2, 1, 2816]⟩
abbrev S1x1024 : Shape := ⟨2, ![1, 1024]⟩
abbrev S512x1024 : Shape := ⟨2, ![512, 1024]⟩
abbrev S1x1x1024 : Shape := ⟨3, ![1, 1, 1024]⟩
abbrev S1x3x2816 : Shape := ⟨3, ![1, 3, 2816]⟩
abbrev S1x1x2816 : Shape := ⟨3, ![1, 1, 2816]⟩
abbrev S272x512 : Shape := ⟨2, ![272, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S16x256 : Shape := ⟨2, ![16, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S272x256 : Shape := ⟨2, ![272, 256]⟩
abbrev S256x256 : Shape := ⟨2, ![256, 256]⟩

abbrev nBuf : Space → Nat
  | .hbm => 47
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16x2816, .f32⟩
  | .hbm, ⟨2, _⟩ => ⟨S2x1024, .f32⟩
  | .hbm, ⟨3, _⟩ => ⟨S2x1024x5632, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1x1024x5632, .f32⟩
  | .hbm, ⟨8, _⟩ => ⟨S1024x5632, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x4096, .f32⟩
  | .hbm, ⟨32, _⟩ => ⟨S1024x1536, .f32⟩
  | .hbm, ⟨33, _⟩ => ⟨S1024x5632, .f32⟩
  | .hbm, ⟨34, _⟩ => ⟨S1024x5632, .bf16⟩
  | .hbm, ⟨35, _⟩ => ⟨S1x2816x1024, .f32⟩
  | .hbm, ⟨36, _⟩ => ⟨S2816x1024, .f32⟩
  | .hbm, ⟨37, _⟩ => ⟨S_, .f32⟩
  | .hbm, ⟨38, _⟩ => ⟨S2816x1024, .f32⟩
  | .hbm, ⟨39, _⟩ => ⟨S2816x1024, .f32⟩
  | .hbm, ⟨40, _⟩ => ⟨S2816x1024, .bf16⟩
  | .hbm, ⟨41, _⟩ => ⟨S2x1x1024, .f32⟩
  | .hbm, ⟨42, _⟩ => ⟨S2x1x2816, .f32⟩
  | .hbm, ⟨43, _⟩ => ⟨S_, .f32⟩
  | .hbm, ⟨44, _⟩ => ⟨S1x1024, .f32⟩
  | .hbm, ⟨45, _⟩ => ⟨S16384x1024, .f32⟩
  | .hbm, ⟨46, _⟩ => ⟨S16x2816, .f32⟩
  | .local _ .vmem, ⟨0, _⟩ => ⟨S512x1024, .f32⟩
  | .local _ .vmem, ⟨1, _⟩ => ⟨S512x1024, .f32⟩
  | .local _ .vmem, ⟨2, _⟩ => ⟨S16x2816, .f32⟩
  | .local _ .vmem, ⟨3, _⟩ => ⟨S1x1x1024, .f32⟩
  | .local _ .vmem, ⟨4, _⟩ => ⟨S1x3x2816, .f32⟩
  | .local _ .vmem, ⟨5, _⟩ => ⟨S1x1x2816, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S16x2816, .f32⟩
  | .local _ .vmem, ⟨12, _⟩ => ⟨S16x2816, .f32⟩
  | .local _ .vmem, ⟨13, _⟩ => ⟨S272x512, .f32⟩
  | .local _ .vmem, ⟨14, _⟩ => ⟨S272x512, .f32⟩
  | .local _ .vmem, ⟨15, _⟩ => ⟨S272x512, .f32⟩
  | .local _ .vmem, ⟨16, _⟩ => ⟨S272x512, .f32⟩
  | .local _ .vmem, ⟨17, _⟩ => ⟨S272x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c16_i32 : BitVec 32 := 16#32
  let arg0 : BitVec 32 := BitVec.ofNat 32 (i 0).val
  let c0_i32_14 : BitVec 32 := 0#32
  let v35 : BitVec 32 := Scalar.minsi arg0 c0_i32_14
  let v36 : BitVec 32 := Scalar.addi c16_i32 v35
  v36
def k0_off1 (i : grid0.Coords) : Fin 2 → Nat :=
  let c16_i32 : BitVec 32 := 16#32
  let arg0 : BitVec 32 := BitVec.ofNat 32 (i 0).val
  let c0_i32_14 : BitVec 32 := 0#32
  let v35 : BitVec 32 := Scalar.minsi arg0 c0_i32_14
  let v36 : BitVec 32 := Scalar.addi c16_i32 v35
  let v37 : BitVec 32 := v36
  let v41 : Index := Scalar.indexCast v37
  let c0_18 : Index := 0#32
  ![v41.toNat, 0]
def k0_cond2 (i : grid0.Coords) : BitVec 1 :=
  let arg0 : BitVec 32 := BitVec.ofNat 32 (i 0).val
  let c31_i32 : BitVec 32 := 31#32
  let v1250 : BitVec 1 := Scalar.cmpi .eq arg0 c31_i32
  let v1251 : BitVec 32 := Scalar.extui v1250
  let c0_i32_839 : BitVec 32 := 0#32
  let v1252 : BitVec 1 := Scalar.cmpi .ne v1251 c0_i32_839
  v1252

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel2Ideal.lean ====
variable {F : FTy → Type} [FloatOps F] [Named F]
def κ : String → Option EReal := fun
  | "gelu_root_cube" => some ((80338380498831 / 2251799813685248 : ℝ) : EReal)
  | _ => none
-- ==== Reference2Ideal.lean ====
abbrev S16384x1024 : Shape := ⟨2, ![16384, 1024]⟩
abbrev S16x2816 : Shape := ⟨2, ![16, 2816]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S2048x8x1024 : Shape := ⟨3, ![2048, 8, 1024]⟩
abbrev S1x1024 : Shape := ⟨2, ![1, 1024]⟩
abbrev S1024 : Shape := ⟨1, ![1024]⟩
abbrev S_ : Shape := ⟨0, ![]⟩
abbrev S2048x8 : Shape := ⟨2, ![2048, 8]⟩
abbrev S2048x8x1 : Shape := ⟨3, ![2048, 8, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2048x8x5632 : Shape := ⟨3, ![2048, 8, 5632]⟩
abbrev S2048x8x2816 : Shape := ⟨3, ![2048, 8, 2816]⟩
abbrev S2x8x2816 : Shape := ⟨3, ![2, 8, 2816]⟩
abbrev S2050x8x2816 : Shape := ⟨3, ![2050, 8, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x2816, .f32⟩
  | .hbm, ⟨2, _⟩ => ⟨S2x1024, .f32⟩
  | .hbm, ⟨3, _⟩ => ⟨S2x1024x5632, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S2048x8x1024, .f32⟩
  | .hbm, ⟨8, _⟩ => ⟨S1x1024, .f32⟩
  | .hbm, ⟨9, _⟩ => ⟨S1024, .f32⟩
  | .hbm, ⟨10, _⟩ => ⟨S2048x8x1024, .f32⟩
  | .hbm, ⟨11, _⟩ => ⟨S_, .f32⟩
  | .hbm, ⟨12, _⟩ => ⟨S2048x8, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S_, .f32⟩
  | .hbm, ⟨18, _⟩ => ⟨S2048x8x1, .f32⟩
  | .hbm, ⟨19, _⟩ => ⟨S2048x8x1, .f32⟩
  | .hbm, ⟨20, _⟩ => ⟨S2048x8x1, .f32⟩
  | .hbm, ⟨21, _⟩ => ⟨S2048x8x1024, .f32⟩
  | .hbm, ⟨22, _⟩ => ⟨S2048x8x1024, .f32⟩
  | .hbm, ⟨23, _⟩ => ⟨S1x1x1024, .f32⟩
  | .hbm, ⟨24, _⟩ => ⟨S2048x8x1024, .f32⟩
  | .hbm, ⟨25, _⟩ => ⟨S2048x8x1024, .f32⟩
  | .hbm, ⟨26, _⟩ => ⟨S1x1024x5632, .f32⟩
  | .hbm, ⟨27, _⟩ => ⟨S1024x5632, .f32⟩
  | .hbm, ⟨28, _⟩ => ⟨S2048x8x5632, .f32⟩
  | .hbm, ⟨29, _⟩ => ⟨S2048x8x2816, .f32⟩
  | .hbm, ⟨30, _⟩ => ⟨S2048x8x2816, .f32⟩
  | .hbm, ⟨31, _⟩ => ⟨S2x8x2816, .f32⟩
  | .hbm, ⟨32, _⟩ => ⟨S2050x8x2816, .f32⟩
  | .hbm, ⟨33, _⟩ => ⟨S1x2816, .f32⟩
  | .hbm, ⟨34, _⟩ => ⟨S2816, .f32⟩
  | .hbm, ⟨35, _⟩ => ⟨S1x1x2816, .f32⟩
  | .hbm, ⟨36, _⟩ => ⟨S2816, .f32⟩
  | .hbm, ⟨37, _⟩ => ⟨S2048x8x2816, .f32⟩
  | .hbm, ⟨38, _⟩ => ⟨S1x1x2816, .f32⟩
  | .hbm, ⟨39, _⟩ => ⟨S2048x8x2816, .f32⟩
  | .hbm, ⟨40, _⟩ => ⟨S2048x8x2816, .f32⟩
  | .hbm, ⟨41, _⟩ => ⟨S1x1x2816, .f32⟩
  | .hbm, ⟨42, _⟩ => ⟨S2048x8x2816, .f32⟩
  | .hbm, ⟨43, _⟩ => ⟨S2048x8x2816, .f32⟩
  | .hbm, ⟨44, _⟩ => ⟨S1x1x2816, .f32⟩
  | .hbm, ⟨45, _⟩ => ⟨S2816, .f32⟩
  | .hbm, ⟨46, _⟩ => ⟨S2048x8x2816, .f32⟩
  | .hbm, ⟨47, _⟩ => ⟨S1x1x2816, .f32⟩
  | .hbm, ⟨48, _⟩ => ⟨S2048x8x2816, .f32⟩
  | .hbm, ⟨49, _⟩ => ⟨S2048x8x2816, .f32⟩
  | .hbm, ⟨50, _⟩ => ⟨S2048x8x2816, .f32⟩
  | .hbm, ⟨51, _⟩ => ⟨S1x1x2816, .f32⟩
  | .hbm, ⟨52, _⟩ => ⟨S2816, .f32⟩
  | .hbm, ⟨53, _⟩ => ⟨S2048x8x2816, .f32⟩
  | .hbm, ⟨54, _⟩ => ⟨S1x1x2816, .f32⟩
  | .hbm, ⟨55, _⟩ => ⟨S2048x8x2816, .f32⟩
  | .hbm, ⟨56, _⟩ => ⟨S2048x8x2816, .f32⟩
  | .hbm, ⟨57, _⟩ => ⟨S2048x8x2816, .f32⟩
  | .hbm, ⟨58, _⟩ => ⟨S2048x8x2816, .f32⟩
  | .hbm, ⟨59, _⟩ => ⟨S2048x8x2816, .f32⟩
  | .hbm, ⟨60, _⟩ => ⟨S_, .f32⟩
  | .hbm, ⟨61, _⟩ => ⟨S2048x8x2816, .f32⟩
  | .hbm, ⟨62, _⟩ => ⟨S2048x8x2816, .f32⟩
  | .hbm, ⟨63, _⟩ => ⟨S2048x8x2816, .f32⟩
  | .hbm, ⟨64, _⟩ => ⟨S_, .f32⟩
  | .hbm, ⟨65, _⟩ => ⟨S2048x8x2816, .f32⟩
  | .hbm, ⟨66, _⟩ => ⟨S2048x8x2816, .f32⟩
  | .hbm, ⟨67, _⟩ => ⟨S2048x8x2816, .f32⟩
  | .hbm, ⟨68, _⟩ => ⟨S_, .f32⟩
  | .hbm, ⟨69, _⟩ => ⟨S2048x8x2816, .f32⟩
  | .hbm, ⟨70, _⟩ => ⟨S2048x8x2816, .f32⟩
  | .hbm, ⟨71, _⟩ => ⟨S_, .f32⟩
  | .hbm, ⟨72, _⟩ => ⟨S2048x8x2816, .f32⟩
  | .hbm, ⟨73, _⟩ => ⟨S2048x8x2816, .f32⟩
  | .hbm, ⟨74, _⟩ => ⟨S2048x8x2816, .f32⟩
  | .hbm, ⟨75, _⟩ => ⟨S2048x8x2816, .f32⟩
  | .hbm, ⟨76, _⟩ => ⟨S1x2816x1024, .f32⟩
  | .hbm, ⟨77, _⟩ => ⟨S2816x1024, .f32⟩
  | .hbm, ⟨78, _⟩ => ⟨S2048x8x1024, .f32⟩
  | .hbm, ⟨79, _⟩ => ⟨S2048x8x1024, .f32⟩
  | .hbm, ⟨80, _⟩ => ⟨S16384x1024, .f32⟩
  | .hbm, ⟨81, _⟩ => ⟨S2x8x2816, .f32⟩
  | .hbm, ⟨82, _⟩ => ⟨S16x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_2 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩

abbrev nD : Nat := 1
abbrev τ : Topo := Topo.v7x

variable {F : FTy → Type} [FloatOps F]
-- ==== Kernel3.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x32x1 : Shape := ⟨3, ![2, 32, 1]⟩
abbrev S2x1x2048 : Shape := ⟨3, ![2, 1, 2048]⟩
abbrev S2x16x32x64 : Shape := ⟨4, ![2, 16, 32, 64]⟩
abbrev S2x16x2048 : Shape := ⟨3, ![2, 16, 2048]⟩
abbrev S2x64x32x16 : Shape := ⟨4, ![2, 64, 32, 16]⟩
abbrev S2x64x512 : Shape := ⟨3, ![2, 64, 512]⟩
abbrev S2x4x128x1024 : Shape := ⟨4, ![2, 4, 128, 1024]⟩
abbrev S2x4x512x128 : Shape := ⟨4, ![2, 4, 512, 128]⟩
abbrev S2x15x128x512 : Shape := ⟨4, ![2, 15, 128, 512]⟩
abbrev S2x2048x128 : Shape := ⟨3, ![2, 2048, 128]⟩
abbrev S2x128x2x2816 : Shape := ⟨4, ![2, 128, 2, 2816]⟩
abbrev S1x1x2048 : Shape := ⟨3, ![1, 1, 2048]⟩
abbrev S1x16x2048 : Shape := ⟨3, ![1, 16, 2048]⟩
abbrev S1x64x512 : Shape := ⟨3, ![1, 64, 512]⟩
abbrev S1x4x128x1024 : Shape := ⟨4, ![1, 4, 128, 1024]⟩
abbrev S1x4x512x128 : Shape := ⟨4, ![1, 4, 512, 128]⟩
abbrev S1x15x128x512 : Shape := ⟨4, ![1, 15, 128, 512]⟩
abbrev S1x2048x128 : Shape := ⟨3, ![1, 2048, 128]⟩
abbrev S1x128x2x2816 : Shape := ⟨4, ![1, 128, 2, 2816]⟩
abbrev S15x128x512 : Shape := ⟨3, ![15, 128, 512]⟩
abbrev S2048x128 : Shape := ⟨2, ![2048, 128]⟩
abbrev S128x2x2816 : Shape := ⟨3, ![128, 2, 2816]⟩
abbrev S1x2048 : Shape := ⟨2, ![1, 2048]⟩
abbrev S16x2048 : Shape := ⟨2, ![16, 2048]⟩
abbrev S64x512 : Shape := ⟨2, ![64, 512]⟩
abbrev S4x128x1024 : Shape := ⟨3, ![4, 128, 1024]⟩
abbrev S4x512x128 : Shape := ⟨3, ![4, 512, 128]⟩
abbrev S16x64 : Shape := ⟨2, ![16, 64]⟩
abbrev S1x1x16x64 : Shape := ⟨4, ![1, 1, 16, 64]⟩
abbrev S64x16 : Shape := ⟨2, ![64, 16]⟩
abbrev S1x1x64x16 : Shape := ⟨4, ![1, 1, 64, 16]⟩

abbrev nBuf : Space → Nat
  | .hbm => 29
  | .vmem => 32
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x16x64, .f32⟩
  | .hbm, ⟨6, _⟩ => ⟨S2x32x16x64, .f32⟩
  | .hbm, ⟨7, _⟩ => ⟨S2x32x1, .f32⟩
  | .hbm, ⟨8, _⟩ => ⟨S2x32x64, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x16x32x64, .f32⟩
  | .hbm, ⟨13, _⟩ => ⟨S2x16x2048, .f32⟩
  | .hbm, ⟨14, _⟩ => ⟨S2x16x32x64, .f32⟩
  | .hbm, ⟨15, _⟩ => ⟨S2x16x2048, .f32⟩
  | .hbm, ⟨16, _⟩ => ⟨S2x64x32x16, .f32⟩
  | .hbm, ⟨17, _⟩ => ⟨S2x64x512, .f32⟩
  | .hbm, ⟨18, _⟩ => ⟨S2x64x32x16, .f32⟩
  | .hbm, ⟨19, _⟩ => ⟨S2x64x512, .f32⟩
  | .hbm, ⟨20, _⟩ => ⟨S2x1x2048, .f32⟩
  | .hbm, ⟨21, _⟩ => ⟨S2x1x2048, .f32⟩
  | .hbm, ⟨22, _⟩ => ⟨S2x4x128x1024, .bf16⟩
  | .hbm, ⟨23, _⟩ => ⟨S2x4x512x128, .bf16⟩
  | .hbm, ⟨24, _⟩ => ⟨S2x4x512x128, .bf16⟩
  | .hbm, ⟨25, _⟩ => ⟨S2x15x128x512, .f32⟩
  | .hbm, ⟨26, _⟩ => ⟨S2x2048x128, .f32⟩
  | .hbm, ⟨27, _⟩ => ⟨S2x2048x128, .f32⟩
  | .hbm, ⟨28, _⟩ => ⟨S2x128x2x2816, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x16x2048, .f32⟩
  | .local _ .vmem, ⟨7, _⟩ => ⟨S1x16x2048, .f32⟩
  | .local _ .vmem, ⟨8, _⟩ => ⟨S1x16x2048, .f32⟩
  | .local _ .vmem, ⟨9, _⟩ => ⟨S1x16x2048, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x4x128x1024, .bf16⟩
  | .local _ .vmem, ⟨19, _⟩ => ⟨S1x4x128x1024, .bf16⟩
  | .local _ .vmem, ⟨20, _⟩ => ⟨S1x4x512x128, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S1x4x512x128, .bf16⟩
  | .local _ .vmem, ⟨24, _⟩ => ⟨S1x15x128x512, .f32⟩
  | .local _ .vmem, ⟨25, _⟩ => ⟨S1x15x128x512, .f32⟩
  | .local _ .vmem, ⟨26, _⟩ => ⟨S1x2048x128, .f32⟩
  | .local _ .vmem, ⟨27, _⟩ => ⟨S1x2048x128, .f32⟩
  | .local _ .vmem, ⟨28, _⟩ => ⟨S1x2048x128, .f32⟩
  | .local _ .vmem, ⟨29, _⟩ => ⟨S1x2048x128, .f32⟩
  | .local _ .vmem, ⟨30, _⟩ => ⟨S1x128x2x2816, .f32⟩
  | .local _ .vmem, ⟨31, _⟩ => ⟨S1x128x2x2816, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v13_5 : Ref sig .tc := ⟨.hbm, 25, rfl⟩
abbrev main_v13_6 : Ref sig .tc := ⟨.hbm, 26, rfl⟩
abbrev main_v13_7 : Ref sig .tc := ⟨.hbm, 27, rfl⟩
abbrev main_v13_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x15x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x2x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x32x1 : Shape := ⟨3, ![2, 32, 1]⟩
abbrev S_ : Shape := ⟨0, ![]⟩
abbrev S2x32x64x1 : Shape := ⟨4, ![2, 32, 64, 1]⟩
abbrev S8 : Shape := ⟨1, ![8]⟩
abbrev S8x1x1x1 : Shape := ⟨4, ![8, 1, 1, 1]⟩
abbrev S1x1x8x1 : Shape := ⟨4, ![1, 1, 8, 1]⟩
abbrev S8x1x8x1 : Shape := ⟨4, ![8, 1, 8, 1]⟩
abbrev S2x4x8x16x1x64 : Shape := ⟨6, ![2, 4, 8, 16, 1, 64]⟩
abbrev S2x4x8x16x8x64 : Shape := ⟨6, ![2, 4, 8, 16, 8, 64]⟩
abbrev S2x4x128x512 : Shape := ⟨4, ![2, 4, 128, 512]⟩
abbrev S2x4x128x1024 : Shape := ⟨4, ![2, 4, 128, 1024]⟩
abbrev S2x1x2048 : Shape := ⟨3, ![2, 1, 2048]⟩
abbrev S2x4x8x64x1x16 : Shape := ⟨6, ![2, 4, 8, 64, 1, 16]⟩
abbrev S2x4x8x64x8x16 : Shape := ⟨6, ![2, 4, 8, 64, 8, 16]⟩
abbrev S2x4x512x128 : Shape := ⟨4, ![2, 4, 512, 128]⟩
abbrev S2x15x128x512 : Shape := ⟨4, ![2, 15, 128, 512]⟩
abbrev S2x2048x128 : Shape := ⟨3, ![2, 2048, 128]⟩
abbrev S2x128x2x2816 : Shape := ⟨4, ![2, 128, 2, 2816]⟩

abbrev nBuf : Space → Nat
  | .hbm => 126
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x16x64, .f32⟩
  | .hbm, ⟨6, _⟩ => ⟨S2x32x16x64, .f32⟩
  | .hbm, ⟨7, _⟩ => ⟨S2x32, .f32⟩
  | .hbm, ⟨8, _⟩ => ⟨S2x32x1, .f32⟩
  | .hbm, ⟨9, _⟩ => ⟨S2x32x64, .f32⟩
  | .hbm, ⟨10, _⟩ => ⟨S2x32x64, .f32⟩
  | .hbm, ⟨11, _⟩ => ⟨S2x32x64, .f32⟩
  | .hbm, ⟨12, _⟩ => ⟨S2x32x64, .f32⟩
  | .hbm, ⟨13, _⟩ => ⟨S2x32x64, .f32⟩
  | .hbm, ⟨14, _⟩ => ⟨S2x32x64, .f32⟩
  | .hbm, ⟨15, _⟩ => ⟨S2x32x64, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S2x32x64, .f32⟩
  | .hbm, ⟨20, _⟩ => ⟨S2x32x64, .f32⟩
  | .hbm, ⟨21, _⟩ => ⟨S2x32x64, .f32⟩
  | .hbm, ⟨22, _⟩ => ⟨S2x32x64, .f32⟩
  | .hbm, ⟨23, _⟩ => ⟨S_, .f32⟩
  | .hbm, ⟨24, _⟩ => ⟨S2x32x64, .f32⟩
  | .hbm, ⟨25, _⟩ => ⟨S2x32x64, .f32⟩
  | .hbm, ⟨26, _⟩ => ⟨S2x32x64, .f32⟩
  | .hbm, ⟨27, _⟩ => ⟨S2x32x64, .f32⟩
  | .hbm, ⟨28, _⟩ => ⟨S2x32x64, .f32⟩
  | .hbm, ⟨29, _⟩ => ⟨S2x32x64, .f32⟩
  | .hbm, ⟨30, _⟩ => ⟨S2x32x64, .f32⟩
  | .hbm, ⟨31, _⟩ => ⟨S2x32x64, .f32⟩
  | .hbm, ⟨32, _⟩ => ⟨S2x32x64, .f32⟩
  | .hbm, ⟨33, _⟩ => ⟨S2x32x64, .f32⟩
  | .hbm, ⟨34, _⟩ => ⟨S2x32x64x1, .f32⟩
  | .hbm, ⟨35, _⟩ => ⟨S2x32x64x16, .f32⟩
  | .hbm, ⟨36, _⟩ => ⟨S2x32x64x16, .f32⟩
  | .hbm, ⟨37, _⟩ => ⟨S2x32x64x1, .f32⟩
  | .hbm, ⟨38, _⟩ => ⟨S2x32x64x16, .f32⟩
  | .hbm, ⟨39, _⟩ => ⟨S2x32x64x16, .f32⟩
  | .hbm, ⟨40, _⟩ => ⟨S2x32x64x16, .f32⟩
  | .hbm, ⟨41, _⟩ => ⟨S2x32x64x1, .f32⟩
  | .hbm, ⟨42, _⟩ => ⟨S2x32x64x16, .f32⟩
  | .hbm, ⟨43, _⟩ => ⟨S2x32x64x16, .f32⟩
  | .hbm, ⟨44, _⟩ => ⟨S2x32x64x1, .f32⟩
  | .hbm, ⟨45, _⟩ => ⟨S2x32x64x16, .f32⟩
  | .hbm, ⟨46, _⟩ => ⟨S2x32x64x16, .f32⟩
  | .hbm, ⟨47, _⟩ => ⟨S2x32x64x16, .f32⟩
  | .hbm, ⟨48, _⟩ => ⟨S2x32x16x64, .f32⟩
  | .hbm, ⟨49, _⟩ => ⟨S8, .i32⟩
  | .hbm, ⟨50, _⟩ => ⟨S8x1x1x1, .i32⟩
  | .hbm, ⟨51, _⟩ => ⟨S8, .i32⟩
  | .hbm, ⟨52, _⟩ => ⟨S1x1x8x1, .i32⟩
  | .hbm, ⟨53, _⟩ => ⟨S8x1x8x1, .i32⟩
  | .hbm, ⟨54, _⟩ => ⟨S8x1x8x1, .i32⟩
  | .hbm, ⟨55, _⟩ => ⟨S8x1x8x1, .i1⟩
  | .hbm, ⟨56, _⟩ => ⟨S2x4x8x16x1x64, .f32⟩
  | .hbm, ⟨57, _⟩ => ⟨S_, .f32⟩
  | .hbm, ⟨58, _⟩ => ⟨S_, .f32⟩
  | .hbm, ⟨59, _⟩ => ⟨S2x4x8x16x8x64, .i1⟩
  | .hbm, ⟨60, _⟩ => ⟨S2x4x8x16x8x64, .f32⟩
  | .hbm, ⟨61, _⟩ => ⟨S2x4x8x16x8x64, .f32⟩
  | .hbm, ⟨62, _⟩ => ⟨S2x4x8x16x8x64, .f32⟩
  | .hbm, ⟨63, _⟩ => ⟨S2x4x128x512, .f32⟩
  | .hbm, ⟨64, _⟩ => ⟨S2x32x16x64, .f32⟩
  | .hbm, ⟨65, _⟩ => ⟨S8, .i32⟩
  | .hbm, ⟨66, _⟩ => ⟨S8x1x1x1, .i32⟩
  | .hbm, ⟨67, _⟩ => ⟨S8, .i32⟩
  | .hbm, ⟨68, _⟩ => ⟨S1x1x8x1, .i32⟩
  | .hbm, ⟨69, _⟩ => ⟨S8x1x8x1, .i32⟩
  | .hbm, ⟨70, _⟩ => ⟨S8x1x8x1, .i32⟩
  | .hbm, ⟨71, _⟩ => ⟨S8x1x8x1, .i1⟩
  | .hbm, ⟨72, _⟩ => ⟨S2x4x8x16x1x64, .f32⟩
  | .hbm, ⟨73, _⟩ => ⟨S_, .f32⟩
  | .hbm, ⟨74, _⟩ => ⟨S_, .f32⟩
  | .hbm, ⟨75, _⟩ => ⟨S2x4x8x16x8x64, .i1⟩
  | .hbm, ⟨76, _⟩ => ⟨S2x4x8x16x8x64, .f32⟩
  | .hbm, ⟨77, _⟩ => ⟨S2x4x8x16x8x64, .f32⟩
  | .hbm, ⟨78, _⟩ => ⟨S2x4x8x16x8x64, .f32⟩
  | .hbm, ⟨79, _⟩ => ⟨S2x4x128x512, .f32⟩
  | .hbm, ⟨80, _⟩ => ⟨S2x4x128x1024, .f32⟩
  | .hbm, ⟨81, _⟩ => ⟨S2x1x2048, .f32⟩
  | .hbm, ⟨82, _⟩ => ⟨S2x1x2048, .f32⟩
  | .hbm, ⟨83, _⟩ => ⟨S2x4x128x1024, .bf16⟩
  | .hbm, ⟨84, _⟩ => ⟨S2x32x64x16, .f32⟩
  | .hbm, ⟨85, _⟩ => ⟨S8, .i32⟩
  | .hbm, ⟨86, _⟩ => ⟨S8x1x1x1, .i32⟩
  | .hbm, ⟨87, _⟩ => ⟨S8, .i32⟩
  | .hbm, ⟨88, _⟩ => ⟨S1x1x8x1, .i32⟩
  | .hbm, ⟨89, _⟩ => ⟨S8x1x8x1, .i32⟩
  | .hbm, ⟨90, _⟩ => ⟨S8x1x8x1, .i32⟩
  | .hbm, ⟨91, _⟩ => ⟨S8x1x8x1, .i1⟩
  | .hbm, ⟨92, _⟩ => ⟨S2x4x8x64x1x16, .f32⟩
  | .hbm, ⟨93, _⟩ => ⟨S_, .f32⟩
  | .hbm, ⟨94, _⟩ => ⟨S_, .f32⟩
  | .hbm, ⟨95, _⟩ => ⟨S2x4x8x64x8x16, .i1⟩
  | .hbm, ⟨96, _⟩ => ⟨S2x4x8x64x8x16, .f32⟩
  | .hbm, ⟨97, _⟩ => ⟨S2x4x8x64x8x16, .f32⟩
  | .hbm, ⟨98, _⟩ => ⟨S2x4x8x64x8x16, .f32⟩
  | .hbm, ⟨99, _⟩ => ⟨S2x4x512x128, .f32⟩
  | .hbm, ⟨100, _⟩ => ⟨S2x4x512x128, .bf16⟩
  | .hbm, ⟨101, _⟩ => ⟨S2x32x64x16, .f32⟩
  | .hbm, ⟨102, _⟩ => ⟨S8, .i32⟩
  | .hbm, ⟨103, _⟩ => ⟨S8x1x1x1, .i32⟩
  | .hbm, ⟨104, _⟩ => ⟨S8, .i32⟩
  | .hbm, ⟨105, _⟩ => ⟨S1x1x8x1, .i32⟩
  | .hbm, ⟨106, _⟩ => ⟨S8x1x8x1, .i32⟩
  | .hbm, ⟨107, _⟩ => ⟨S8x1x8x1, .i32⟩
  | .hbm, ⟨108, _⟩ => ⟨S8x1x8x1, .i1⟩
  | .hbm, ⟨109, _⟩ => ⟨S2x4x8x64x1x16, .f32⟩
  | .hbm, ⟨110, _⟩ => ⟨S_, .f32⟩
  | .hbm, ⟨111, _⟩ => ⟨S_, .f32⟩
  | .hbm, ⟨112, _⟩ => ⟨S2x4x8x64x8x16, .i1⟩
  | .hbm, ⟨113, _⟩ => ⟨S2x4x8x64x8x16, .f32⟩
  | .hbm, ⟨114, _⟩ => ⟨S2x4x8x64x8x16, .f32⟩
  | .hbm, ⟨115, _⟩ => ⟨S2x4x8x64x8x16, .f32⟩
  | .hbm, ⟨116, _⟩ => ⟨S2x4x512x128, .f32⟩
  | .hbm, ⟨117, _⟩ => ⟨S2x4x512x128, .bf16⟩
  | .hbm, ⟨118, _⟩ => ⟨S_, .f32⟩
  | .hbm, ⟨119, _⟩ => ⟨S2x15x128x512, .f32⟩
  | .hbm, ⟨120, _⟩ => ⟨S_, .f32⟩
  | .hbm, ⟨121, _⟩ => ⟨S2x2048x128, .f32⟩
  | .hbm, ⟨122, _⟩ => ⟨S_, .f32⟩
  | .hbm, ⟨123, _⟩ => ⟨S2x2048x128, .f32⟩
  | .hbm, ⟨124, _⟩ => ⟨S_, .f32⟩
  | .hbm, ⟨125, _⟩ => ⟨S2x128x2x2816, .f32⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_0 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_1 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_2 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_3 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_4 : Ref sig .tc := ⟨.hbm, 118, rfl⟩
abbrev main_v90 : Ref sig .tc := ⟨.hbm, 119, rfl⟩
abbrev main_cst_5 : Ref sig .tc := ⟨.hbm, 120, rfl⟩
abbrev main_v91 : Ref sig .tc := ⟨.hbm, 121, rfl⟩
abbrev main_cst_6 : Ref sig .tc := ⟨.hbm, 122, rfl⟩
abbrev main_v92 : Ref sig .tc := ⟨.hbm, 123, rfl⟩
abbrev main_cst_7 : Ref sig .tc := ⟨.hbm, 124, rfl⟩
abbrev main_v93 : Ref sig .tc := ⟨.hbm, 125, rfl⟩

abbrev nD : Nat := 1
abbrev τ : Topo := Topo.v7x

variable {F : FTy → Type} [FloatOps F]
-- ==== Kernel4.lean ====
abbrev S16384x1024 : Shape := ⟨2, ![16384, 1024]⟩
abbrev S16x2816 : Shape := ⟨2, ![16, 2816]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x1024x5632 : Shape := ⟨3, ![1, 1024, 5632]⟩
abbrev S1024x5632 : Shape := ⟨2, ![1024, 5632]⟩
abbrev S1024x256 : Shape := ⟨2, ![1024, 256]⟩
abbrev S1024x4096 : Shape := ⟨2, ![1024, 4096]⟩
abbrev S1024x1536 : Shape := ⟨2, ![1024, 1536]⟩
abbrev S1x2816x1024 : Shape := ⟨3, ![1, 2816, 1024]⟩
abbrev S2816x1024 : Shape := ⟨2, ![2816, 1024]⟩
abbrev S_ : Shape := ⟨0, ![]⟩
abbrev S2x1x1024 : Shape := ⟨3, ![2, 1, 1024]⟩
abbrev S2x1x2816 : Shape := ⟨3, ![2, 1, 2816]⟩
abbrev S1x1024 : Shape := ⟨2, ![1, 1024]⟩
abbrev S512x1024 : Shape := ⟨2, ![512, 1024]⟩
abbrev S1x1x1024 : Shape := ⟨3, ![1, 1, 1024]⟩
abbrev S1x3x2816 : Shape := ⟨3, ![1, 3, 2816]⟩
abbrev S1x1x2816 : Shape := ⟨3, ![1, 1, 2816]⟩
abbrev S272x512 : Shape := ⟨2, ![272, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S16x256 : Shape := ⟨2, ![16, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S272x256 : Shape := ⟨2, ![272, 256]⟩
abbrev S256x256 : Shape := ⟨2, ![256, 256]⟩

abbrev nBuf : Space → Nat
  | .hbm => 47
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16x2816, .f32⟩
  | .hbm, ⟨2, _⟩ => ⟨S2x1024, .f32⟩
  | .hbm, ⟨3, _⟩ => ⟨S2x1024x5632, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1024, .f32⟩
  | .hbm, ⟨8, _⟩ => ⟨S1x1024x5632, .f32⟩
  | .hbm, ⟨9, _⟩ => ⟨S1024x5632, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S1024x4096, .f32⟩
  | .hbm, ⟨33, _⟩ => ⟨S1024x1536, .f32⟩
  | .hbm, ⟨34, _⟩ => ⟨S1024x5632, .f32⟩
  | .hbm, ⟨35, _⟩ => ⟨S1024x5632, .bf16⟩
  | .hbm, ⟨36, _⟩ => ⟨S1x2816x1024, .f32⟩
  | .hbm, ⟨37, _⟩ => ⟨S2816x1024, .f32⟩
  | .hbm, ⟨38, _⟩ => ⟨S_, .f32⟩
  | .hbm, ⟨39, _⟩ => ⟨S2816x1024, .f32⟩
  | .hbm, ⟨40, _⟩ => ⟨S2816x1024, .f32⟩
  | .hbm, ⟨41, _⟩ => ⟨S2816x1024, .bf16⟩
  | .hbm, ⟨42, _⟩ => ⟨S2x1x1024, .f32⟩
  | .hbm, ⟨43, _⟩ => ⟨S2x1x2816, .f32⟩
  | .hbm, ⟨44, _⟩ => ⟨S1x1024, .f32⟩
  | .hbm, ⟨45, _⟩ => ⟨S16384x1024, .f32⟩
  | .hbm, ⟨46, _⟩ => ⟨S16x2816, .f32⟩
  | .local _ .vmem, ⟨0, _⟩ => ⟨S512x1024, .f32⟩
  | .local _ .vmem, ⟨1, _⟩ => ⟨S512x1024, .f32⟩
  | .local _ .vmem, ⟨2, _⟩ => ⟨S16x2816, .f32⟩
  | .local _ .vmem, ⟨3, _⟩ => ⟨S1x1x1024, .f32⟩
  | .local _ .vmem, ⟨4, _⟩ => ⟨S1x3x2816, .f32⟩
  | .local _ .vmem, ⟨5, _⟩ => ⟨S1x1x2816, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S16x2816, .f32⟩
  | .local _ .vmem, ⟨12, _⟩ => ⟨S16x2816, .f32⟩
  | .local _ .vmem, ⟨13, _⟩ => ⟨S272x512, .f32⟩
  | .local _ .vmem, ⟨14, _⟩ => ⟨S272x512, .f32⟩
  | .local _ .vmem, ⟨15, _⟩ => ⟨S272x512, .f32⟩
  | .local _ .vmem, ⟨16, _⟩ => ⟨S272x512, .f32⟩
  | .local _ .vmem, ⟨17, _⟩ => ⟨S272x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c16_i32 : BitVec 32 := 16#32
  let arg0 : BitVec 32 := BitVec.ofNat 32 (i 0).val
  let c0_i32_14 : BitVec 32 := 0#32
  let v35 : BitVec 32 := Scalar.minsi arg0 c0_i32_14
  let v36 : BitVec 32 := Scalar.addi c16_i32 v35
  v36
def k0_off1 (i : grid0.Coords) : Fin 2 → Nat :=
  let c16_i32 : BitVec 32 := 16#32
  let arg0 : BitVec 32 := BitVec.ofNat 32 (i 0).val
  let c0_i32_14 : BitVec 32 := 0#32
  let v35 : BitVec 32 := Scalar.minsi arg0 c0_i32_14
  let v36 : BitVec 32 := Scalar.addi c16_i32 v35
  let v37 : BitVec 32 := v36
  let v41 : Index := Scalar.indexCast v37
  let c0_18 : Index := 0#32
  ![v41.toNat, 0]
def k0_cond2 (i : grid0.Coords) : BitVec 1 :=
  let arg0 : BitVec 32 := BitVec.ofNat 32 (i 0).val
  let c31_i32 : BitVec 32 := 31#32
  let v1278 : BitVec 1 := Scalar.cmpi .eq arg0 c31_i32
  let v1279 : BitVec 32 := Scalar.extui v1278
  let c0_i32_849 : BitVec 32 := 0#32
  let v1280 : BitVec 1 := Scalar.cmpi .ne v1279 c0_i32_849
  v1280

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel4Ideal.lean ====
variable {F : FTy → Type} [FloatOps F] [Named F]
def κ : String → Option EReal := fun
  | "gelu_root_cube" => some ((80338380498831 / 2251799813685248 : ℝ) : EReal)
  | _ => none
-- ==== Reference4Ideal.lean ====
abbrev S16384x1024 : Shape := ⟨2, ![16384, 1024]⟩
abbrev S16x2816 : Shape := ⟨2, ![16, 2816]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S2048x8x1024 : Shape := ⟨3, ![2048, 8, 1024]⟩
abbrev S1x1024 : Shape := ⟨2, ![1, 1024]⟩
abbrev S_ : Shape := ⟨0, ![]⟩
abbrev S2048x8 : Shape := ⟨2, ![2048, 8]⟩
abbrev S2048x8x1 : Shape := ⟨3, ![2048, 8, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2048x8x5632 : Shape := ⟨3, ![2048, 8, 5632]⟩
abbrev S2048x8x2816 : Shape := ⟨3, ![2048, 8, 2816]⟩
abbrev S2x8x2816 : Shape := ⟨3, ![2, 8, 2816]⟩
abbrev S2050x8x2816 : Shape := ⟨3, ![2050, 8, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x2816, .f32⟩
  | .hbm, ⟨2, _⟩ => ⟨S2x1024, .f32⟩
  | .hbm, ⟨3, _⟩ => ⟨S2x1024x5632, .f32⟩
  | .hbm, ⟨4, _⟩ => ⟨S2x3x2816, .f32⟩
  | .hbm, ⟨5, _⟩ => ⟨S2x2816, .f32⟩
  | .hbm, ⟨6, _⟩ => ⟨S2x2816x1024, .f32⟩
  | .hbm, ⟨7, _⟩ => ⟨S1024, .f32⟩
  | .hbm, ⟨8, _⟩ => ⟨S2048x8x1024, .f32⟩
  | .hbm, ⟨9, _⟩ => ⟨S1x1024, .f32⟩
  | .hbm, ⟨10, _⟩ => ⟨S1024, .f32⟩
  | .hbm, ⟨11, _⟩ => ⟨S2048x8x1024, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S2048x8x1024, .f32⟩
  | .hbm, ⟨23, _⟩ => ⟨S2048x8x1024, .f32⟩
  | .hbm, ⟨24, _⟩ => ⟨S1x1x1024, .f32⟩
  | .hbm, ⟨25, _⟩ => ⟨S2048x8x1024, .f32⟩
  | .hbm, ⟨26, _⟩ => ⟨S2048x8x1024, .f32⟩
  | .hbm, ⟨27, _⟩ => ⟨S1x1024x5632, .f32⟩
  | .hbm, ⟨28, _⟩ => ⟨S1024x5632, .f32⟩
  | .hbm, ⟨29, _⟩ => ⟨S2048x8x5632, .f32⟩
  | .hbm, ⟨30, _⟩ => ⟨S2048x8x2816, .f32⟩
  | .hbm, ⟨31, _⟩ => ⟨S2048x8x2816, .f32⟩
  | .hbm, ⟨32, _⟩ => ⟨S2x8x2816, .f32⟩
  | .hbm, ⟨33, _⟩ => ⟨S2050x8x2816, .f32⟩
  | .hbm, ⟨34, _⟩ => ⟨S1x2816, .f32⟩
  | .hbm, ⟨35, _⟩ => ⟨S2816, .f32⟩
  | .hbm, ⟨36, _⟩ => ⟨S1x1x2816, .f32⟩
  | .hbm, ⟨37, _⟩ => ⟨S2816, .f32⟩
  | .hbm, ⟨38, _⟩ => ⟨S2048x8x2816, .f32⟩
  | .hbm, ⟨39, _⟩ => ⟨S1x1x2816, .f32⟩
  | .hbm, ⟨40, _⟩ => ⟨S2048x8x2816, .f32⟩
  | .hbm, ⟨41, _⟩ => ⟨S2048x8x2816, .f32⟩
  | .hbm, ⟨42, _⟩ => ⟨S1x1x2816, .f32⟩
  | .hbm, ⟨43, _⟩ => ⟨S2048x8x2816, .f32⟩
  | .hbm, ⟨44, _⟩ => ⟨S2048x8x2816, .f32⟩
  | .hbm, ⟨45, _⟩ => ⟨S1x1x2816, .f32⟩
  | .hbm, ⟨46, _⟩ => ⟨S2816, .f32⟩
  | .hbm, ⟨47, _⟩ => ⟨S2048x8x2816, .f32⟩
  | .hbm, ⟨48, _⟩ => ⟨S1x1x2816, .f32⟩
  | .hbm, ⟨49, _⟩ => ⟨S2048x8x2816, .f32⟩
  | .hbm, ⟨50, _⟩ => ⟨S2048x8x2816, .f32⟩
  | .hbm, ⟨51, _⟩ => ⟨S2048x8x2816, .f32⟩
  | .hbm, ⟨52, _⟩ => ⟨S1x1x2816, .f32⟩
  | .hbm, ⟨53, _⟩ => ⟨S2816, .f32⟩
  | .hbm, ⟨54, _⟩ => ⟨S2048x8x2816, .f32⟩
  | .hbm, ⟨55, _⟩ => ⟨S1x1x2816, .f32⟩
  | .hbm, ⟨56, _⟩ => ⟨S2048x8x2816, .f32⟩
  | .hbm, ⟨57, _⟩ => ⟨S2048x8x2816, .f32⟩
  | .hbm, ⟨58, _⟩ => ⟨S2048x8x2816, .f32⟩
  | .hbm, ⟨59, _⟩ => ⟨S2048x8x2816, .f32⟩
  | .hbm, ⟨60, _⟩ => ⟨S2048x8x2816, .f32⟩
  | .hbm, ⟨61, _⟩ => ⟨S_, .f32⟩
  | .hbm, ⟨62, _⟩ => ⟨S2048x8x2816, .f32⟩
  | .hbm, ⟨63, _⟩ => ⟨S2048x8x2816, .f32⟩
  | .hbm, ⟨64, _⟩ => ⟨S2048x8x2816, .f32⟩
  | .hbm, ⟨65, _⟩ => ⟨S_, .f32⟩
  | .hbm, ⟨66, _⟩ => ⟨S2048x8x2816, .f32⟩
  | .hbm, ⟨67, _⟩ => ⟨S2048x8x2816, .f32⟩
  | .hbm, ⟨68, _⟩ => ⟨S2048x8x2816, .f32⟩
  | .hbm, ⟨69, _⟩ => ⟨S_, .f32⟩
  | .hbm, ⟨70, _⟩ => ⟨S2048x8x2816, .f32⟩
  | .hbm, ⟨71, _⟩ => ⟨S2048x8x2816, .f32⟩
  | .hbm, ⟨72, _⟩ => ⟨S_, .f32⟩
  | .hbm, ⟨73, _⟩ => ⟨S2048x8x2816, .f32⟩
  | .hbm, ⟨74, _⟩ => ⟨S2048x8x2816, .f32⟩
  | .hbm, ⟨75, _⟩ => ⟨S2048x8x2816, .f32⟩
  | .hbm, ⟨76, _⟩ => ⟨S2048x8x2816, .f32⟩
  | .hbm, ⟨77, _⟩ => ⟨S1x2816x1024, .f32⟩
  | .hbm, ⟨78, _⟩ => ⟨S2816x1024, .f32⟩
  | .hbm, ⟨79, _⟩ => ⟨S2048x8x1024, .f32⟩
  | .hbm, ⟨80, _⟩ => ⟨S2048x8x1024, .f32⟩
  | .hbm, ⟨81, _⟩ => ⟨S2048x8x1024, .f32⟩
  | .hbm, ⟨82, _⟩ => ⟨S_, .f32⟩
  | .hbm, ⟨83, _⟩ => ⟨S2048x8, .f32⟩
  | .hbm, ⟨84, _⟩ => ⟨S2048x8x1, .f32⟩
  | .hbm, ⟨85, _⟩ => ⟨S_, .f32⟩
  | .hbm, ⟨86, _⟩ => ⟨S2048x8x1, .f32⟩
  | .hbm, ⟨87, _⟩ => ⟨S2048x8x1, .f32⟩
  | .hbm, ⟨88, _⟩ => ⟨S_, .f32⟩
  | .hbm, ⟨89, _⟩ => ⟨S2048x8x1, .f32⟩
  | .hbm, ⟨90, _⟩ => ⟨S2048x8x1, .f32⟩
  | .hbm, ⟨91, _⟩ => ⟨S2048x8x1, .f32⟩
  | .hbm, ⟨92, _⟩ => ⟨S2048x8x1024, .f32⟩
  | .hbm, ⟨93, _⟩ => ⟨S2048x8x1024, .f32⟩
  | .hbm, ⟨94, _⟩ => ⟨S1x1x1024, .f32⟩
  | .hbm, ⟨95, _⟩ => ⟨S2048x8x1024, .f32⟩
  | .hbm, ⟨96, _⟩ => ⟨S2048x8x1024, .f32⟩
  | .hbm, ⟨97, _⟩ => ⟨S16384x1024, .f32⟩
  | .hbm, ⟨98, _⟩ => ⟨S2x8x2816, .f32⟩
  | .hbm, ⟨99, _⟩ => ⟨S16x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_4 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== Proof.Ffn.Spec.lean ====
/- The feed-forward layer in scalars: the normalised rows, the up projection, the three-tap convolution over rows eight
   apart (one step of a batch of eight), the gated activation and the down projection. Rows and hidden columns are counted
   by natural numbers, so that a tile's column is `256 * f + j` without a bound in its type. -/
module

public import Idealize.ShloMosaic.Lib.IdealHost
public import Idealize.ShloMosaic.PureOps.IdealRules

@[expose] public section

noncomputable section

namespace Cert.Ffn

open Idealize.ShloMosaic

/-- The root of two over pi, as its float. -/
def rootC : EReal := Ideal.ofBits .f32 0x3F4C422A#32
/-- The cubic coefficient of the activation, as its float. -/
def cubeC : EReal := Ideal.ofBits .f32 0x3D372713#32
/-- One half. -/
def half : EReal := Ideal.ofBits .f32 0x3F000000#32

theorem rootC_eq : rootC = ((13386282 / 2 ^ 24 : ℝ) : EReal) := by
  unfold rootC
  simp [Ideal.ofBits, Ideal.ieee, -EReal.coe_mul]; norm_num

theorem cubeC_eq : cubeC = ((12003091 / 2 ^ 28 : ℝ) : EReal) := by
  unfold cubeC
  simp [Ideal.ofBits, Ideal.ieee, -EReal.coe_mul]; norm_num

/-- The activation's inner polynomial: the kernel multiplies the root into both coefficients and factors one `c` out,
    the formula keeps the cube; the two agree at every extended real. -/
theorem inner_eq (c : EReal) :
    c * (rootC + ((80338380498831 / 2251799813685248 : ℝ) : EReal) * (c * c)) = rootC * (c + cubeC * ((c * c) * c)) := by
  rw [rootC_eq, cubeC_eq]
  induction c using EReal.rec with
  | bot =>
    rw [EReal.bot_mul_bot, EReal.top_mul_bot, EReal.coe_mul_top_of_pos (by norm_num), EReal.coe_mul_bot_of_pos (by norm_num),
      EReal.add_bot, EReal.coe_mul_bot_of_pos (by norm_num), EReal.coe_add_top, EReal.bot_mul_top]
  | top =>
    rw [EReal.top_mul_top, EReal.top_mul_top, EReal.coe_mul_top_of_pos (by norm_num), EReal.coe_mul_top_of_pos (by norm_num),
      EReal.coe_add_top, EReal.top_add_top, EReal.top_mul_top, EReal.coe_mul_top_of_pos (by norm_num)]
  | coe x =>
    norm_cast
    ring

section
variable (X : ℕ → Fin 1024 → EReal) (G : Fin 1024 → EReal) (W : Fin 1024 → ℕ → EReal) (T : ℕ → ℕ → EReal)
  (cw : Fin 3 → ℕ → EReal) (cb : ℕ → EReal) (D : ℕ → Fin 1024 → EReal)

/-- The normalised row `R`: over the root of its mean square, times the gain. -/
def nrm (R : ℕ) (d : Fin 1024) : EReal :=
  X R d * Ideal.rsqrt (Ideal.div (∑ k, X R k * X R k) (Ideal.ofBits .f32 0x44800000#32) + Ideal.ofBits .f32 0x358637BD#32) * G d

/-- The up projection of row `R`, column `n`. -/
def up (R n : ℕ) : EReal := ∑ d, nrm X G R d * W d n

/-- The gate's rows with the sixteen carried in before them. -/
def ext (i f : ℕ) : EReal := if i < 16 then T i f else up X G W (i - 16) f

/-- The convolution: the bias and the three taps. -/
def cnv (R f : ℕ) : EReal :=
  ((cb f + cw 0 f * ext X G W T R f) + cw 1 f * ext X G W T (R + 8) f) + cw 2 f * ext X G W T (R + 16) f

/-- The kernel's gated activation of a convolved gate and its value, one half left to the down projection's weights. -/
def actK (c v : EReal) : EReal :=
  c * v * (1 + Ideal.tanh (c * (rootC + ((80338380498831 / 2251799813685248 : ℝ) : EReal) * (c * c))))

/-- The formula's gated activation. -/
def actR (c v : EReal) : EReal := (c * (half * (1 + Ideal.tanh (rootC * (c + cubeC * ((c * c) * c)))))) * v

theorem act_eq (c v w : EReal) : actK c v * (half * w) = actR c v * w := by
  unfold actK actR
  rw [inner_eq]
  ac_rfl

/-- The layer's output at row `R`, column `n`. -/
def out (R : ℕ) (n : Fin 1024) : EReal :=
  X R n + ∑ f ∈ Finset.range 2816, actR (cnv X G W T cw cb R f) (up X G W R (2816 + f)) * D f n

end

/-- A sum over tiles of 256 columns, tile after tile, is the sum over all the columns. -/
theorem sum_tile (A : ℕ → EReal) (n : ℕ) :
    (∑ i ∈ Finset.range (256 * n), A i) + ∑ j : Fin 256, A (256 * n + j.val) = ∑ i ∈ Finset.range (256 * (n + 1)), A i := by
  rw [Fin.sum_univ_eq_sum_range (fun j => A (256 * n + j)) 256, Nat.mul_succ, Finset.sum_range_add]

end Cert.Ffn
-- ==== Proof.Ffn.Slots.lean ====
/- What the loads of one grid point read: a ring slot whose two newest stores are the rows carried over and a tile's
   gate and value columns, and the constant boxes of the point's inputs. Every lemma is about one load, at any offset;
   the block modules use them at all tiles. -/
module

public import proofs.«01_k».proof.Proof.Gen.Kernel2Ideal.Value
public import Idealize.ShloMosaic.Lib.Pointwise
public import Idealize.ShloMosaic.Lib.Pipeline.ReadBack
public import Idealize.ShloMosaic.Lib.WritesUnit

@[expose] public section

set_option maxRecDepth 16384

noncomputable section

namespace Cert.Ffn

open Cert.Kernel2Ideal Cert.Kernel2Ideal.Gen Idealize.ShloMosaic Idealize.ShloMosaic.TcCoe Idealize.SL.Sem

variable {σ : RefSig}

/-- A coordinate offset by `o`, kept inside an axis of `n + 1` positions. -/
def at_ (n o j : ℕ) : Fin (n + 1) := ⟨min (o + j) n, by omega⟩

theorem at_val {n o j : ℕ} (h : o + j ≤ n) : (at_ n o j : Fin (n + 1)).val = o + j := by
  unfold at_; exact min_eq_left h

/-- 256 rows from row `o` of the point's 512 rows. -/
def xRows (x : Vec Ideal S512x1024 .f32) (o : ℕ) : Vec Ideal S256x1024 .f32 := fun j => x (ix2 (at_ 511 o (j 0).val) (j 1))
/-- 256 columns from column `o` of the convolution's taps. -/
def cwCols (x : Vec Ideal S1x3x2816 .f32) (o : ℕ) : Vec Ideal S1x3x256 .f32 := fun j => x (ix3 (j 0) (j 1) (at_ 2815 o (j 2).val))
/-- 256 columns from column `o` of the convolution's bias. -/
def cbCols (x : Vec Ideal S1x1x2816 .f32) (o : ℕ) : Vec Ideal S1x1x256 .f32 := fun j => x (ix3 (j 0) (j 1) (at_ 2815 o (j 2).val))
/-- 512 columns from column `o` of the interleaved gate and value weights. -/
def wgCols (x : Vec Ideal S1024x5632 .bf16) (o : ℕ) : Vec Ideal S1024x512 .bf16 := fun j => x (ix2 (j 0) (at_ 5631 o (j 1).val))
/-- 256 rows from row `o` of the down projection. -/
def wdRows (x : Vec Ideal S2816x1024 .bf16) (o : ℕ) : Vec Ideal S256x1024 .bf16 := fun j => x (ix2 (at_ 2815 o (j 0).val) (j 1))
/-- 256 columns from column `o` of the sixteen carried rows. -/
def topCols (x : Vec Ideal S16x2816 .f32) (o : ℕ) : Vec Ideal S16x256 .f32 := fun j => x (ix2 (j 0) (at_ 2815 o (j 1).val))

/-- 256 rows from row `k` of the slot: the sixteen carried rows `top`, then the gate half of `gv`. -/
def slotRows (top : Vec Ideal S16x256 .f32) (gv : Vec Ideal S256x512 .f32) (k : ℕ) : Vec Ideal S256x256 .f32 := fun j =>
  if h : (j 0).val + k < 16 then top (ix2 ⟨(j 0).val + k, h⟩ (j 1)) else gv (ix2 (at_ 255 0 ((j 0).val + k - 16)) (at_ 511 0 (j 1).val))
/-- The value half of a tile. -/
def valCols (gv : Vec Ideal S256x512 .f32) : Vec Ideal S256x256 .f32 := fun j => gv (ix2 (j 0) (at_ 511 256 (j 1).val))
/-- The last sixteen rows of the gate half of a tile. -/
def lastRows (gv : Vec Ideal S256x512 .f32) : Vec Ideal S16x256 .f32 := fun j => gv (ix2 (at_ 255 240 (j 0).val) (at_ 511 0 (j 1).val))

/-- The contents at an index, newest store first, for unit-stride stores. -/
theorem canon_unit {s : Shape} {e : EltTy} {off size : Fin s.rank → ℕ} (inb : ∀ a, off a + size a ≤ s.size a)
    (w : (Rect.unit off size inb).shape.Idx → Elt Ideal e) (L : List (View.Piece (Elt Ideal) s e)) (y : s.Idx) :
    View.canon ((⟨Rect.unit off size inb, w⟩ : View.Piece (Elt Ideal) s e) :: L) y
      = if h : ∀ a, off a ≤ (y a).val ∧ (y a).val < off a + size a then
          w (Rect.unitLocal (s := s) (off := off) (size := size) y h)
        else View.canon L y := by
  by_cases h : ∀ a, off a ≤ (y a).val ∧ (y a).val < off a + size a
  · rw [dif_pos h]
    have hy : (Rect.unit off size inb).emb (Rect.unitLocal (s := s) (off := off) (size := size) y h) = y := funext fun a => Fin.ext (by
      have := h a
      show off a + 1 * ((y a).val - off a) = (y a).val
      omega)
    exact (congrArg _ hy.symm).trans (View.canon_cons_emb _ _ _ _)
  · rw [dif_neg h]
    exact View.canon_cons_of_not_mem _ _ (by rw [Rect.mem_set_unit]; exact h)

section slot
variable (a : Memref σ .tc .vmem S272x512 .f32) (top : Vec Ideal S16x256 .f32) (gv : Vec Ideal S256x512 .f32)
  (L : List (View.Piece (Elt Ideal) S272x512 .f32))

/-- The contents of a slot after its two newest stores: the carried rows on top, the tile below. -/
theorem slot_canon (i1 i2) (y : S272x512.Idx) (hy : 16 ≤ (y 0).val ∨ (y 1).val < 256) :
    View.canon (⟨Rect.unit (s := S272x512) ![0, 0] S16x256.size i1, top⟩ :: ⟨Rect.unit (s := S272x512) ![16, 0] S256x512.size i2, gv⟩ :: L) y
      = if h : (y 0).val < 16 then top (ix2 ⟨(y 0).val, h⟩ (at_ 255 0 (y 1).val)) else gv (ix2 (at_ 255 0 ((y 0).val - 16)) (y 1)) := by
  rw [canon_unit]
  have h0 : (y 0).val < 272 := (y 0).isLt
  have h1 : (y 1).val < 512 := (y 1).isLt
  by_cases h : (y 0).val < 16
  · have hb : ∀ a : Fin 2, (![0, 0] : Fin 2 → ℕ) a ≤ (y a).val ∧ (y a).val < (![0, 0] : Fin 2 → ℕ) a + S16x256.size a :=
      Fin.forall_fin_two.mpr ⟨⟨Nat.zero_le _, by show _ < 0 + 16; omega⟩, ⟨Nat.zero_le _, by show _ < 0 + 256; omega⟩⟩
    rw [dif_pos hb, dif_pos h]
    refine congrArg top (funext fun a => ?_)
    fin_cases a
    · exact Fin.ext (by show (y 0).val - 0 = (y 0).val; omega)
    · exact Fin.ext (by show (y 1).val - 0 = min (0 + (y 1).val) 255; omega)
  · rw [dif_neg (fun hb => h (by have := (hb 0).2; exact (by simpa using this : (y 0).val < 16))), dif_neg h, canon_unit]
    have hb : ∀ a : Fin 2, (![16, 0] : Fin 2 → ℕ) a ≤ (y a).val ∧ (y a).val < (![16, 0] : Fin 2 → ℕ) a + S256x512.size a :=
      Fin.forall_fin_two.mpr ⟨⟨by show 16 ≤ _; omega, by show _ < 16 + 256; omega⟩, ⟨Nat.zero_le _, by show _ < 0 + 512; omega⟩⟩
    rw [dif_pos hb]
    refine congrArg gv (funext fun a => ?_)
    fin_cases a
    · exact Fin.ext (by show (y 0).val - 16 = min (0 + ((y 0).val - 16)) 255; omega)
    · exact Fin.ext (by show (y 1).val - 0 = (y 1).val; omega)

/-- The convolution's load at row `k` of the slot. -/
theorem slot_rows (k : ℕ) (i1 i2 i3 i4 h0) :
    a.view.readCov (⟨Rect.unit (s := S272x512) ![0, 0] S16x256.size i1, top⟩ :: ⟨Rect.unit (s := S272x512) ![16, 0] S256x512.size i2, gv⟩ :: L)
        ((Rect.unit (s := S272x512) ![0, 0] S272x256.size i3).withinL (Rect.unit (s := S272x256) ![k, 0] S256x256.size i4).toLoadRect h0)
      = slotRows top gv k := by
  rw [View.readCov_eq_canon']
  have hk : k + 256 ≤ 272 := i4 0
  funext j
  have hj0 : (j 0).val < 256 := (j 0).isLt
  have hj1 : (j 1).val < 256 := (j 1).isLt
  obtain ⟨y, hy⟩ : ∃ y : S272x512.Idx, ((Rect.unit (s := S272x512) ![0, 0] S272x256.size i3).withinL (Rect.unit (s := S272x256) ![k, 0] S256x256.size i4).toLoadRect h0).idx j = y := ⟨_, rfl⟩
  have y0 : (y 0).val = (j 0).val + k := by rw [← hy]; show 0 + k + 1 * (j 0).val = _; omega
  have y1 : (y 1).val = (j 1).val := by rw [← hy]; show 0 + 0 + 1 * (j 1).val = _; omega
  rw [hy, slot_canon _ _ _ _ _ _ (.inr (by omega))]
  unfold slotRows
  by_cases h : (j 0).val + k < 16
  · rw [dif_pos (by omega), dif_pos h]
    refine congrArg top (funext fun a => ?_)
    fin_cases a
    · exact Fin.ext y0
    · exact Fin.ext (by show min (0 + (y 1).val) 255 = (j 1).val; omega)
  · rw [dif_neg (by omega), dif_neg h]
    refine congrArg gv (funext fun a => ?_)
    fin_cases a
    · exact Fin.ext (by show min (0 + ((y 0).val - 16)) 255 = min (0 + ((j 0).val + k - 16)) 255; omega)
    · exact Fin.ext (by show (y 1).val = min (0 + (j 1).val) 511; omega)

/-- The load of the tile's value half. -/
theorem slot_val (i1 i2 i3) :
    a.view.readCov (⟨Rect.unit (s := S272x512) ![0, 0] S16x256.size i1, top⟩ :: ⟨Rect.unit (s := S272x512) ![16, 0] S256x512.size i2, gv⟩ :: L)
        (Rect.unit (s := S272x512) ![16, 256] S256x256.size i3).toLoadRect
      = valCols gv := by
  rw [View.readCov_eq_canon']
  funext j
  have hj0 : (j 0).val < 256 := (j 0).isLt
  have hj1 : (j 1).val < 256 := (j 1).isLt
  obtain ⟨y, hy⟩ : ∃ y : S272x512.Idx, (Rect.unit (s := S272x512) ![16, 256] S256x256.size i3).toLoadRect.idx j = y := ⟨_, rfl⟩
  have y0 : (y 0).val = 16 + (j 0).val := by rw [← hy]; show 16 + 1 * (j 0).val = _; omega
  have y1 : (y 1).val = 256 + (j 1).val := by rw [← hy]; show 256 + 1 * (j 1).val = _; omega
  rw [hy, slot_canon _ _ _ _ _ _ (.inl (by omega)), dif_neg (by omega)]
  unfold valCols
  refine congrArg gv (funext fun a => ?_)
  fin_cases a
  · exact Fin.ext (by show min (0 + ((y 0).val - 16)) 255 = (j 0).val; omega)
  · exact Fin.ext (by show (y 1).val = min (256 + (j 1).val) 511; omega)

/-- The load of the last sixteen gate rows. -/
theorem slot_last (i1 i2 i3) :
    a.view.readCov (⟨Rect.unit (s := S272x512) ![0, 0] S16x256.size i1, top⟩ :: ⟨Rect.unit (s := S272x512) ![16, 0] S256x512.size i2, gv⟩ :: L)
        (Rect.unit (s := S272x512) ![256, 0] S16x256.size i3).toLoadRect
      = lastRows gv := by
  rw [View.readCov_eq_canon']
  funext j
  have hj0 : (j 0).val < 16 := (j 0).isLt
  have hj1 : (j 1).val < 256 := (j 1).isLt
  obtain ⟨y, hy⟩ : ∃ y : S272x512.Idx, (Rect.unit (s := S272x512) ![256, 0] S16x256.size i3).toLoadRect.idx j = y := ⟨_, rfl⟩
  have y0 : (y 0).val = 256 + (j 0).val := by rw [← hy]; show 256 + 1 * (j 0).val = _; omega
  have y1 : (y 1).val = (j 1).val := by rw [← hy]; show 0 + 1 * (j 1).val = _; omega
  rw [hy, slot_canon _ _ _ _ _ _ (.inl (by omega)), dif_neg (by omega)]
  unfold lastRows
  refine congrArg gv (funext fun a => ?_)
  fin_cases a
  · exact Fin.ext (by show min (0 + ((y 0).val - 16)) 255 = min (240 + (j 0).val) 255; omega)
  · exact Fin.ext (by show (y 1).val = min (0 + (j 1).val) 511; omega)

end slot

/-! ## The constant boxes of the inputs -/

theorem ld_xRows (x : Vec Ideal S512x1024 .f32) (o : ℕ) (inb) : View.ld x (Rect.unit (s := S512x1024) ![o, 0] S256x1024.size inb) = xRows x o := by
  have ho : o + 256 ≤ 512 := inb 0
  funext j
  refine congrArg x (funext fun a => ?_)
  have h0 : (j 0).val < 256 := (j 0).isLt
  fin_cases a
  · exact Fin.ext (by show o + 1 * (j 0).val = min (o + (j 0).val) 511; omega)
  · exact Fin.ext (by show 0 + 1 * (j 1).val = (j 1).val; omega)

theorem ld_cwCols (x : Vec Ideal S1x3x2816 .f32) (o : ℕ) (inb) : View.ld x (Rect.unit (s := S1x3x2816) ![0, 0, o] S1x3x256.size inb) = cwCols x o := by
  have ho : o + 256 ≤ 2816 := inb 2
  funext j
  refine congrArg x (funext fun a => ?_)
  have h0 : (j 2).val < 256 := (j 2).isLt
  fin_cases a
  · exact Fin.ext (by show 0 + 1 * (j 0).val = (j 0).val; omega)
  · exact Fin.ext (by show 0 + 1 * (j 1).val = (j 1).val; omega)
  · exact Fin.ext (by show o + 1 * (j 2).val = min (o + (j 2).val) 2815; omega)

theorem ld_cbCols (x : Vec Ideal S1x1x2816 .f32) (o : ℕ) (inb) : View.ld x (Rect.unit (s := S1x1x2816) ![0, 0, o] S1x1x256.size inb) = cbCols x o := by
  have ho : o + 256 ≤ 2816 := inb 2
  funext j
  refine congrArg x (funext fun a => ?_)
  have h0 : (j 2).val < 256 := (j 2).isLt
  fin_cases a
  · exact Fin.ext (by show 0 + 1 * (j 0).val = (j 0).val; omega)
  · exact Fin.ext (by show 0 + 1 * (j 1).val = (j 1).val; omega)
  · exact Fin.ext (by show o + 1 * (j 2).val = min (o + (j 2).val) 2815; omega)

theorem ld_wgCols (x : Vec Ideal S1024x5632 .bf16) (o : ℕ) (inb) : View.ld x (Rect.unit (s := S1024x5632) ![0, o] S1024x512.size inb) = wgCols x o := by
  have ho : o + 512 ≤ 5632 := inb 1
  funext j
  refine congrArg x (funext fun a => ?_)
  have h0 : (j 1).val < 512 := (j 1).isLt
  fin_cases a
  · exact Fin.ext (by show 0 + 1 * (j 0).val = (j 0).val; omega)
  · exact Fin.ext (by show o + 1 * (j 1).val = min (o + (j 1).val) 5631; omega)

theorem ld_wdRows (x : Vec Ideal S2816x1024 .bf16) (o : ℕ) (inb) : View.ld x (Rect.unit (s := S2816x1024) ![o, 0] S256x1024.size inb) = wdRows x o := by
  have ho : o + 256 ≤ 2816 := inb 0
  funext j
  refine congrArg x (funext fun a => ?_)
  have h0 : (j 0).val < 256 := (j 0).isLt
  fin_cases a
  · exact Fin.ext (by show o + 1 * (j 0).val = min (o + (j 0).val) 2815; omega)
  · exact Fin.ext (by show 0 + 1 * (j 1).val = (j 1).val; omega)

theorem ld_topCols (x : Vec Ideal S16x2816 .f32) (o : ℕ) (inb) : View.ld x (Rect.unit (s := S16x2816) ![0, o] S16x256.size inb) = topCols x o := by
  have ho : o + 256 ≤ 2816 := inb 1
  funext j
  refine congrArg x (funext fun a => ?_)
  have h0 : (j 1).val < 256 := (j 1).isLt
  fin_cases a
  · exact Fin.ext (by show 0 + 1 * (j 0).val = (j 0).val; omega)
  · exact Fin.ext (by show o + 1 * (j 1).val = min (o + (j 1).val) 2815; omega)

/-! The same, as the point's loads of its whole input buffers are written. -/

theorem rd_xRows (a : Memref σ .tc .vmem S512x1024 .f32) (ha : a.IsWhole) (x : Vec Ideal S512x1024 .f32) (o : ℕ) (inb) :
    View.readAt (Elt Ideal) a.view (Rect.unit (s := S512x1024) ![o, 0] S256x1024.size inb).toLoadRect (ha.unread x) = xRows x o := by
  rw [View.readAt_eq_ld, ha.read_unread, ld_xRows]

theorem rd_cwCols (a : Memref σ .tc .vmem S1x3x2816 .f32) (ha : a.IsWhole) (x : Vec Ideal S1x3x2816 .f32) (o : ℕ) (inb) :
    View.readAt (Elt Ideal) a.view (Rect.unit (s := S1x3x2816) ![0, 0, o] S1x3x256.size inb).toLoadRect (ha.unread x) = cwCols x o := by
  rw [View.readAt_eq_ld, ha.read_unread, ld_cwCols]

theorem rd_cbCols (a : Memref σ .tc .vmem S1x1x2816 .f32) (ha : a.IsWhole) (x : Vec Ideal S1x1x2816 .f32) (o : ℕ) (inb) :
    View.readAt (Elt Ideal) a.view (Rect.unit (s := S1x1x2816) ![0, 0, o] S1x1x256.size inb).toLoadRect (ha.unread x) = cbCols x o := by
  rw [View.readAt_eq_ld, ha.read_unread, ld_cbCols]

theorem rd_wgCols (a : Memref σ .tc .vmem S1024x5632 .bf16) (ha : a.IsWhole) (x : Vec Ideal S1024x5632 .bf16) (o : ℕ) (inb) :
    View.readAt (Elt Ideal) a.view (Rect.unit (s := S1024x5632) ![0, o] S1024x512.size inb).toLoadRect (ha.unread x) = wgCols x o := by
  rw [View.readAt_eq_ld, ha.read_unread, ld_wgCols]

theorem rd_wdRows (a : Memref σ .tc .vmem S2816x1024 .bf16) (ha : a.IsWhole) (x : Vec Ideal S2816x1024 .bf16) (o : ℕ) (inb) :
    View.readAt (Elt Ideal) a.view (Rect.unit (s := S2816x1024) ![o, 0] S256x1024.size inb).toLoadRect (ha.unread x) = wdRows x o := by
  rw [View.readAt_eq_ld, ha.read_unread, ld_wdRows]

theorem rd_topCols (a : Memref σ .tc .vmem S16x2816 .f32) (ha : a.IsWhole) (x : Vec Ideal S16x2816 .f32) (o : ℕ) (inb) :
    View.readAt (Elt Ideal) a.view (Rect.unit (s := S16x2816) ![0, o] S16x256.size inb).toLoadRect (ha.unread x) = topCols x o := by
  rw [View.readAt_eq_ld, ha.read_unread, ld_topCols]

theorem rd_last (a : Memref σ .tc .vmem S1x1024 .f32) (ha : a.IsWhole) (x : Vec Ideal S1x1024 .f32) (inb) :
    View.readAt (Elt Ideal) a.view (Rect.unit (s := S1x1024) ![0, 0] S1x1024.size inb).toLoadRect (ha.unread x) = x := by
  rw [View.readAt_eq_ld, ha.read_unread]
  exact View.ld_unit_zero (by funext a; fin_cases a <;> rfl) _ _

theorem rd_norm (a : Memref σ .tc .vmem S1x1x1024 .f32) (ha : a.IsWhole) (x : Vec Ideal S1x1x1024 .f32) (inb) :
    View.readAt (Elt Ideal) a.view (Rect.unit (s := S1x1x1024) ![0, 0, 0] S1x1x1024.size inb).toLoadRect (ha.unread x) = x := by
  rw [View.readAt_eq_ld, ha.read_unread]
  exact View.ld_unit_zero (by funext a; fin_cases a <;> rfl) _ _

/-- A load of carried columns that the newest store does not touch reads the older stores. -/
theorem carry_skip (a : Memref σ .tc .vmem S16x2816 .f32) (p o : ℕ) (w : Vec Ideal S16x256 .f32) (L : List (View.Piece (Elt Ideal) S16x2816 .f32))
    (i1 i2) (h : p + 256 ≤ o ∨ o + 256 ≤ p) :
    a.view.readCov (⟨Rect.unit (s := S16x2816) ![0, p] S16x256.size i1, w⟩ :: L) (Rect.unit (s := S16x2816) ![0, o] S16x256.size i2).toLoadRect
      = a.view.readCov L (Rect.unit (s := S16x2816) ![0, o] S16x256.size i2).toLoadRect := by
  refine View.readCov_cons_of_disjoint _ _ _ _ (Rect.disjoint_of_separated _ _ (1 : Fin 2) ?_)
  rcases h with h | h
  · exact .inl (.inr (by show p + 1 * (256 - 1) < o; omega))
  · exact .inr (.inr (by show o + 1 * (256 - 1) < p; omega))

/-- The whole of the carried rows, read back. -/
theorem carry_whole (a : Memref σ .tc .vmem S16x2816 .f32) (L : List (View.Piece (Elt Ideal) S16x2816 .f32)) (inb) :
    a.view.readCov L (Rect.unit (s := S16x2816) ![0, 0] S16x2816.size inb).toLoadRect = View.canon L := by
  rw [View.readCov_eq_canon']
  funext j
  refine congrArg (View.canon L) (funext fun x => ?_)
  fin_cases x
  · exact Fin.ext (by show 0 + 1 * (j 0).val = (j 0).val; omega)
  · exact Fin.ext (by show 0 + 1 * (j 1).val = (j 1).val; omega)

/-- A store of all the carried rows leaves what it stored. -/
theorem whole_canon (w : Vec Ideal S16x2816 .f32) (L : List (View.Piece (Elt Ideal) S16x2816 .f32)) (inb) :
    View.canon (⟨Rect.unit (s := S16x2816) ![0, 0] S16x2816.size inb, w⟩ :: L) = w := by
  funext y
  have hb : ∀ a : Fin 2, (![0, 0] : Fin 2 → ℕ) a ≤ (y a).val ∧ (y a).val < (![0, 0] : Fin 2 → ℕ) a + S16x2816.size a :=
    Fin.forall_fin_two.mpr ⟨⟨Nat.zero_le _, by show _ < 0 + 16; have := (y 0).isLt; have e : S16x2816.size 0 = 16 := rfl; omega⟩,
      ⟨Nat.zero_le _, by show _ < 0 + 2816; have := (y 1).isLt; have e : S16x2816.size 1 = 2816 := rfl; omega⟩⟩
  rw [canon_unit, dif_pos hb]
  refine congrArg w (funext fun a => ?_)
  fin_cases a
  · exact Fin.ext (by show (y 0).val - 0 = (y 0).val; omega)
  · exact Fin.ext (by show (y 1).val - 0 = (y 1).val; omega)

/-- Carried columns, read back from a store of all the carried rows. -/
theorem carry_top (a : Memref σ .tc .vmem S16x2816 .f32) (x : Vec Ideal S16x2816 .f32) (o : ℕ) (L : List (View.Piece (Elt Ideal) S16x2816 .f32)) (i1 i2) :
    a.view.readCov (⟨Rect.unit (s := S16x2816) ![0, 0] S16x2816.size i1, x⟩ :: L) (Rect.unit (s := S16x2816) ![0, o] S16x256.size i2).toLoadRect = topCols x o := by
  rw [View.readCov_eq_canon', whole_canon, ← ld_topCols x o i2]

theorem rd_chist (a : Memref σ .tc .vmem S16x2816 .f32) (ha : a.IsWhole) (x : Vec Ideal S16x2816 .f32) (inb) :
    View.readAt (Elt Ideal) a.view (Rect.unit (s := S16x2816) ![0, 0] S16x2816.size inb).toLoadRect (ha.unread x) = x := by
  rw [View.readAt_eq_ld, ha.read_unread]
  exact View.ld_unit_zero (by funext a; fin_cases a <;> rfl) _ _

end Cert.Ffn
-- ==== Proof.Ffn.Block.lean ====
/- What one grid point computes: its two sub-blocks of 256 rows, eleven tiles of 256 columns each. -/
module

public import proofs.«01_k».proof.Proof.Ffn.Slots

@[expose] public section

set_option maxRecDepth 16384

noncomputable section

namespace Cert.Ffn

open Cert.Kernel2Ideal Cert.Kernel2Ideal.Gen Idealize.ShloMosaic Idealize.ShloMosaic.TcCoe Idealize.SL.Sem

variable {σ : RefSig}

/-- The normalised rows: each row over the root of its mean square, times the gain. -/
def hNorm (x : FVec Ideal S256x1024 .f32) (g : Vec Ideal S1x1x1024 .f32) : FVec Ideal S256x1024 .bf16 :=
  truncf .bf16 (mulf (mulf x (broadcastTo S256x1024 (rsqrt (addf (divf (shapeCast S256x1
    (multiReduction .add [1] S256 (mulf x x) 0x00000000#32 reduces_S256x1024_S256 (.inl rfl) rfl) shapeCasts_S256_S256x1)
    (broadcast S256x1 (FloatOps.ofBits .f32 0x44800000#32))) (broadcast S256x1 (FloatOps.ofBits .f32 0x358637BD#32)))) broadcasts_S256x1_S256x1024))
    (broadcastTo S256x1024 (shapeCast S1x1024 g shapeCasts_S1x1x1024_S1x1024) broadcasts_S1x1024_S256x1024)) bitsLt_bf16_f32

/-- The gate and value columns of a tile: the normalised rows times the tile's weights. -/
def gvTile (h : FVec Ideal S256x1024 .bf16) (w : FVec Ideal S1024x512 .bf16) : Vec Ideal S256x512 .f32 :=
  matmul dot_S256x1024_S1024x512_S256x512_1_0_0_1_n_n none h w (constant S256x512 .f32 0x00000000#32)

/-- The convolution of a tile: the bias and the three taps, at the slot's rows `0`, `8` and `16`. -/
def convTile (cw : Vec Ideal S1x3x256 .f32) (cb : Vec Ideal S1x1x256 .f32) (s0 s1 s2 : Vec Ideal S256x256 .f32) : FVec Ideal S256x256 .f32 :=
  addf (addf (addf (broadcastTo S256x256 (shapeCast S1x256 cb shapeCasts_S1x1x256_S1x256) broadcasts_S1x256_S256x256)
      (mulf (broadcastTo S256x256 (extractStridedSlice S1x256 ![0, 0] (shapeCast S3x256 cw shapeCasts_S1x3x256_S3x256) slices_S3x256_o0_0_S1x256) broadcasts_S1x256_S256x256) s0))
      (mulf (broadcastTo S256x256 (extractStridedSlice S1x256 ![1, 0] (shapeCast S3x256 cw shapeCasts_S1x3x256_S3x256) slices_S3x256_o1_0_S1x256) broadcasts_S1x256_S256x256) s1))
      (mulf (broadcastTo S256x256 (extractStridedSlice S1x256 ![2, 0] (shapeCast S3x256 cw shapeCasts_S1x3x256_S3x256) slices_S3x256_o2_0_S1x256) broadcasts_S1x256_S256x256) s2)

/-- The gated activation of a tile. -/
def actTile (c v : FVec Ideal S256x256 .f32) : FVec Ideal S256x256 .bf16 :=
  truncf .bf16 (mulf (mulf c v) (addf (broadcast S256x256 (FloatOps.ofBits .f32 0x3F800000#32)) (tanh (mulf c
    (addf (broadcast S256x256 (FloatOps.ofBits .f32 0x3F4C422A#32))
      (mulf (broadcast S256x256 (Named.named κ "gelu_root_cube" 0x3D122279#32)) (mulf c c))))))) bitsLt_bf16_f32

/-- A tile's share of the down projection. -/
def downTile (a : FVec Ideal S256x256 .bf16) (w : FVec Ideal S256x1024 .bf16) : FVec Ideal S256x1024 .f32 :=
  matmul dot_S256x256_S256x1024_S256x1024_1_0_0_1_n_n none a w (constant S256x1024 .f32 0x00000000#32)

/-! The operations' terms, folded into those names. -/

theorem rd_wdRows' {m : Memref σ .tc .vmem S2816x1024 .bf16} (ha : m.IsWhole) (x : Vec Ideal S2816x1024 .bf16) (o : ℕ) (h) :
    View.readAt (Elt Ideal) m.view (Rect.unit (s := S2816x1024) ![o, 0] ![256, 1024] h).toLoadRect (ha.unread x) = wdRows x o := rd_wdRows m ha x o h

theorem fold_gvTile (h : FVec Ideal S256x1024 .bf16) (w : FVec Ideal S1024x512 .bf16) :
    (matmul dot_S256x1024_S1024x512_S256x512_1_0_0_1_n_n none h w (constant S256x512 .f32 0x00000000#32) : FVec Ideal S256x512 .f32) = gvTile h w := rfl

theorem fold_convTile (cw : Vec Ideal S1x3x256 .f32) (cb : Vec Ideal S1x1x256 .f32) (s0 s1 s2 : Vec Ideal S256x256 .f32) :
    (addf (addf (addf (broadcastTo S256x256 (shapeCast S1x256 cb shapeCasts_S1x1x256_S1x256) broadcasts_S1x256_S256x256)
      (mulf (broadcastTo S256x256 (extractStridedSlice S1x256 ![0, 0] (shapeCast S3x256 cw shapeCasts_S1x3x256_S3x256) slices_S3x256_o0_0_S1x256) broadcasts_S1x256_S256x256) s0))
      (mulf (broadcastTo S256x256 (extractStridedSlice S1x256 ![1, 0] (shapeCast S3x256 cw shapeCasts_S1x3x256_S3x256) slices_S3x256_o1_0_S1x256) broadcasts_S1x256_S256x256) s1))
      (mulf (broadcastTo S256x256 (extractStridedSlice S1x256 ![2, 0] (shapeCast S3x256 cw shapeCasts_S1x3x256_S3x256) slices_S3x256_o2_0_S1x256) broadcasts_S1x256_S256x256) s2) : FVec Ideal S256x256 .f32) = convTile cw cb s0 s1 s2 := rfl

theorem fold_actTile (c v : FVec Ideal S256x256 .f32) :
    (truncf .bf16 (mulf (mulf c v) (addf (broadcast S256x256 (FloatOps.ofBits .f32 0x3F800000#32)) (tanh (mulf c
    (addf (broadcast S256x256 (FloatOps.ofBits .f32 0x3F4C422A#32))
      (mulf (broadcast S256x256 (Named.named κ "gelu_root_cube" 0x3D122279#32)) (mulf c c))))))) bitsLt_bf16_f32 : FVec Ideal S256x256 .bf16) = actTile c v := rfl

theorem fold_downTile (a : FVec Ideal S256x256 .bf16) (w : FVec Ideal S256x1024 .bf16) :
    (matmul dot_S256x256_S256x1024_S256x1024_1_0_0_1_n_n none a w (constant S256x1024 .f32 0x00000000#32) : FVec Ideal S256x1024 .f32) = downTile a w := rfl

section
variable (x3 : Vec Ideal S1x3x2816 .f32) (x4 : Vec Ideal S1x1x2816 .f32) (x6 : Vec Ideal S1024x5632 .bf16) (x7 : Vec Ideal S2816x1024 .bf16)
  (h : FVec Ideal S256x1024 .bf16) (top : ℕ → Vec Ideal S16x256 .f32)

/-- Tile `f`'s gate and value columns. -/
def gv (f : ℕ) : Vec Ideal S256x512 .f32 := gvTile h (wgCols x6 (512 * f))

/-- Tile `f`'s contribution to the output rows. -/
def tile (f : ℕ) : FVec Ideal S256x1024 .f32 :=
  downTile (actTile (convTile (cwCols x3 (256 * f)) (cbCols x4 (256 * f)) (slotRows (top f) (gv x6 h f) 0) (slotRows (top f) (gv x6 h f) 8)
    (slotRows (top f) (gv x6 h f) 16)) (valCols (gv x6 h f))) (wdRows x7 (256 * f))

/-- The first `f + 1` tiles' contributions, added up in the kernel's order. -/
def tiles : ℕ → FVec Ideal S256x1024 .f32
  | 0 => tile x3 x4 x6 x7 h top 0
  | f + 1 => addf (tiles f) (tile x3 x4 x6 x7 h top (f + 1))
end

/-- The normalised rows of a sub-block. -/
def hRows (x0 : Vec Ideal S512x1024 .f32) (x2 : Vec Ideal S1x1x1024 .f32) (o : ℕ) : FVec Ideal S256x1024 .bf16 := hNorm (xRows x0 o) x2

/-- What one point leaves in its rows of the output, over the carried rows `top`. -/
def blockOut (x0 : Vec Ideal S512x1024 .f32) (x2 : Vec Ideal S1x1x1024 .f32) (x3 : Vec Ideal S1x3x2816 .f32) (x4 : Vec Ideal S1x1x2816 .f32)
    (x6 : Vec Ideal S1024x5632 .bf16) (x7 : Vec Ideal S2816x1024 .bf16) (xs : Vec Ideal S16x2816 .f32) : List (View.Piece (Elt Ideal) S512x1024 .f32) :=
  [⟨Rect.unit (s := S512x1024) ![256, 0] S256x1024.size inb_S512x1024_S256x1024_256_0,
      addf (xRows x0 256) (tiles x3 x4 x6 x7 (hRows x0 x2 256) (fun f => lastRows (gv x6 (hRows x0 x2 0) f)) 10)⟩,
    ⟨Rect.unit (s := S512x1024) ![0, 0] S256x1024.size inb_S512x1024_S256x1024_0_0,
      addf (xRows x0 0) (tiles x3 x4 x6 x7 (hRows x0 x2 0) (fun f => topCols xs (256 * f)) 10)⟩]

/-- The carried rows that a point leaves: the last sixteen gate rows of its second sub-block. -/
def carryOut (x6 : Vec Ideal S1024x5632 .bf16) (h : FVec Ideal S256x1024 .bf16) : Vec Ideal S16x2816 .f32 := fun y =>
  lastRows (gv x6 h ((y 1).val / 256)) (ix2 (y 0) ⟨(y 1).val % 256, Nat.mod_lt _ (by norm_num)⟩)

/-- At an index under the newest store of a tile's carried columns, that store; elsewhere the older stores. -/
theorem carry_step (x6 : Vec Ideal S1024x5632 .bf16) (h : FVec Ideal S256x1024 .bf16) (o w f : ℕ) (L : List (View.Piece (Elt Ideal) S16x2816 .f32)) (inb)
    (y : S16x2816.Idx) (ho : o = 256 * f) (hw : w = 512 * f)
    (hL : ¬(256 * f ≤ (y 1).val ∧ (y 1).val < 256 * f + 256) → View.canon L y = carryOut x6 h y) :
    View.canon (⟨Rect.unit (s := S16x2816) ![0, o] S16x256.size inb, lastRows (gvTile h (wgCols x6 w))⟩ :: L) y = carryOut x6 h y := by
  subst ho hw
  rw [canon_unit]
  by_cases hy : 256 * f ≤ (y 1).val ∧ (y 1).val < 256 * f + 256
  · have h0 : (y 0).val < 16 := (y 0).isLt
    have hb : ∀ a : Fin 2, (![0, 256 * f] : Fin 2 → ℕ) a ≤ (y a).val ∧ (y a).val < (![0, 256 * f] : Fin 2 → ℕ) a + S16x256.size a :=
      Fin.forall_fin_two.mpr ⟨⟨Nat.zero_le _, by show _ < 0 + 16; omega⟩, hy⟩
    rw [dif_pos hb]
    have hf : (y 1).val / 256 = f := by omega
    unfold carryOut gv
    rw [hf]
    refine congrArg _ (funext fun a => ?_)
    fin_cases a
    · exact Fin.ext (by show (y 0).val - 0 = (y 0).val; omega)
    · exact Fin.ext (by show (y 1).val - 256 * f = (y 1).val % 256; omega)
  · rw [dif_neg (fun hb => hy (hb 1))]
    exact hL hy

end Cert.Ffn
-- ==== Proof.Ffn.Closed.lean ====
/- A sub-block of 256 rows in scalars: if its normalised rows, its operands and the rows carried in are the layer's, then
   so are the rows it outputs and the rows it carries on. -/
module

public import proofs.«01_k».proof.Proof.Ffn.Block
public import proofs.«01_k».proof.Proof.Ffn.Spec

@[expose] public section

set_option maxRecDepth 16384

noncomputable section

namespace Cert.Ffn

open Cert.Kernel2Ideal Cert.Kernel2Ideal.Gen Idealize.ShloMosaic Idealize.ShloMosaic.TcCoe Idealize.SL.Sem

/-! ## Each operation at an index -/

theorem hNorm_apply (x : FVec Ideal S256x1024 .f32) (g : Vec Ideal S1x1x1024 .f32) (r : Fin 256) (d : Fin 1024) :
    hNorm x g (ix2 r d) = x (ix2 r d) * Ideal.rsqrt (Ideal.div (∑ k, x (ix2 r k) * x (ix2 r k)) (Ideal.ofBits .f32 0x44800000#32)
      + Ideal.ofBits .f32 0x358637BD#32) * g (ix3 0 0 d) := by
  pointwise [hNorm]

theorem gvTile_apply (h : FVec Ideal S256x1024 .bf16) (w : FVec Ideal S1024x512 .bf16) (r : Fin 256) (j : Fin 512) :
    gvTile h w (ix2 r j) = ∑ d : Fin 1024, h (ix2 r d) * w (ix2 d j) := by
  pointwise [gvTile]

theorem convTile_apply (cw : Vec Ideal S1x3x256 .f32) (cb : Vec Ideal S1x1x256 .f32) (s0 s1 s2 : Vec Ideal S256x256 .f32) (r j : Fin 256) :
    convTile cw cb s0 s1 s2 (ix2 r j) = ((cb (ix3 0 0 j) + cw (ix3 0 0 j) * s0 (ix2 r j)) + cw (ix3 0 1 j) * s1 (ix2 r j))
      + cw (ix3 0 2 j) * s2 (ix2 r j) := by
  pointwise [convTile]

theorem named_eq : Named.named (F := Ideal) κ "gelu_root_cube" (φ := .f32) 0x3D122279#32 = ((80338380498831 / 2251799813685248 : ℝ) : EReal) :=
  IdealRules.named_const.ideal_named_scalar _ _ _ _ rfl

theorem actTile_apply (c v : FVec Ideal S256x256 .f32) (r j : Fin 256) :
    actTile c v (ix2 r j) = actK (c (ix2 r j)) (v (ix2 r j)) := by
  unfold actK rootC
  rw [← named_eq]
  pointwise [actTile]

theorem downTile_apply (a : FVec Ideal S256x256 .bf16) (w : FVec Ideal S256x1024 .bf16) (r : Fin 256) (n : Fin 1024) :
    downTile a w (ix2 r n) = ∑ j : Fin 256, a (ix2 r j) * w (ix2 j n) := by
  pointwise [downTile]

/-! ## A sub-block -/

section
variable (X : ℕ → Fin 1024 → EReal) (G : Fin 1024 → EReal) (W : Fin 1024 → ℕ → EReal) (T : ℕ → ℕ → EReal)
  (cw : Fin 3 → ℕ → EReal) (cb : ℕ → EReal) (D : ℕ → Fin 1024 → EReal)

/-- The operands of a point are the layer's: the gain, the taps, the bias, the tiles' interleaved gate and value weights and
    the halved down projection. -/
structure Operands (x2 : Vec Ideal S1x1x1024 .f32) (x3 : Vec Ideal S1x3x2816 .f32) (x4 : Vec Ideal S1x1x2816 .f32)
    (x6 : Vec Ideal S1024x5632 .bf16) (x7 : Vec Ideal S2816x1024 .bf16) : Prop where
  gain : ∀ d, x2 (ix3 0 0 d) = G d
  taps : ∀ (k : Fin 3) (f : Fin 2816), x3 (ix3 0 k f) = cw k f.val
  bias : ∀ f : Fin 2816, x4 (ix3 0 0 f) = cb f.val
  gate : ∀ (d : Fin 1024) (f j : ℕ) (_ : f < 11) (_ : j < 256) (h : 512 * f + j < 5632), x6 (ix2 d ⟨512 * f + j, h⟩) = W d (256 * f + j)
  value : ∀ (d : Fin 1024) (f j : ℕ) (_ : f < 11) (_ : j < 256) (h : 512 * f + (256 + j) < 5632),
    x6 (ix2 d ⟨512 * f + (256 + j), h⟩) = W d (2816 + (256 * f + j))
  down : ∀ (f : Fin 2816) (n : Fin 1024), x7 (ix2 f n) = half * D f.val n

variable {x2 : Vec Ideal S1x1x1024 .f32} {x3 : Vec Ideal S1x3x2816 .f32} {x4 : Vec Ideal S1x1x2816 .f32}
  {x6 : Vec Ideal S1024x5632 .bf16} {x7 : Vec Ideal S2816x1024 .bf16}
  (H : Operands G W cw cb D x2 x3 x4 x6 x7)
  (h : FVec Ideal S256x1024 .bf16) (B : ℕ) (hh : ∀ (r : Fin 256) (d : Fin 1024), h (ix2 r d) = nrm X G (B + r.val) d)

include H

theorem hRows_apply (x0 : Vec Ideal S512x1024 .f32) (o : ℕ) (ho : o + 256 ≤ 512)
    (hx : ∀ (r : Fin 256) (d : Fin 1024), xRows x0 o (ix2 r d) = X (B + r.val) d) (r : Fin 256) (d : Fin 1024) :
    hRows x0 x2 o (ix2 r d) = nrm X G (B + r.val) d := by
  unfold hRows nrm
  rw [hNorm_apply, hx, H.gain]
  simp only [hx]

include hh

theorem gv_gate (f : ℕ) (hf : f < 11) (r : Fin 256) (j : ℕ) (hj : j < 256) (hj' : j < 512) :
    gv x6 h f (ix2 r ⟨j, hj'⟩) = up X G W (B + r.val) (256 * f + j) := by
  unfold gv up
  rw [gvTile_apply]
  refine Finset.sum_congr rfl fun d _ => ?_
  rw [hh]
  refine congrArg _ ?_
  show x6 (ix2 d (at_ 5631 (512 * f) j)) = _
  rw [show (at_ 5631 (512 * f) j : Fin 5632) = ⟨512 * f + j, by omega⟩ from Fin.ext (at_val (by omega))]
  exact H.gate d f j hf hj _

theorem gv_value (f : ℕ) (hf : f < 11) (r : Fin 256) (j : ℕ) (hj : j < 256) (hj' : 256 + j < 512) :
    gv x6 h f (ix2 r ⟨256 + j, hj'⟩) = up X G W (B + r.val) (2816 + (256 * f + j)) := by
  unfold gv up
  rw [gvTile_apply]
  refine Finset.sum_congr rfl fun d _ => ?_
  rw [hh]
  refine congrArg _ ?_
  show x6 (ix2 d (at_ 5631 (512 * f) (256 + j))) = _
  rw [show (at_ 5631 (512 * f) (256 + j) : Fin 5632) = ⟨512 * f + (256 + j), by omega⟩ from Fin.ext (at_val (by omega))]
  exact H.value d f j hf hj _

/-- The rows a sub-block carries on are the sixteen rows before the next sub-block. -/
theorem last_apply (f : ℕ) (hf : f < 11) (i : Fin 16) (j : Fin 256) :
    lastRows (gv x6 h f) (ix2 i j) = ext X G W T (B + 256 + i.val) (256 * f + j.val) := by
  show gv x6 h f (ix2 (at_ 255 240 i.val) (at_ 511 0 j.val)) = _
  rw [show (at_ 511 0 j.val : Fin 512) = ⟨j.val, by omega⟩ from Fin.ext ((at_val (by omega)).trans (Nat.zero_add _)),
    gv_gate X G W cw cb D H h B hh f hf _ _ j.isLt, at_val (by omega)]
  unfold ext
  rw [if_neg (by omega)]
  exact congrArg (fun R => up X G W R _) (by omega)

variable (top : ℕ → Vec Ideal S16x256 .f32)
  (ht : ∀ f < 11, ∀ (i : Fin 16) (j : Fin 256), top f (ix2 i j) = ext X G W T (B + i.val) (256 * f + j.val))

include ht

theorem slot_apply (f : ℕ) (hf : f < 11) (k : ℕ) (hk : k ≤ 16) (r j : Fin 256) :
    slotRows (top f) (gv x6 h f) k (ix2 r j) = ext X G W T (B + r.val + k) (256 * f + j.val) := by
  show (if hr : r.val + k < 16 then top f (ix2 ⟨r.val + k, hr⟩ j) else gv x6 h f (ix2 (at_ 255 0 (r.val + k - 16)) (at_ 511 0 j.val))) = _
  by_cases hr : r.val + k < 16
  · rw [dif_pos hr, ht f hf, Nat.add_assoc]
  · rw [dif_neg hr, show (at_ 511 0 j.val : Fin 512) = ⟨j.val, by omega⟩ from Fin.ext ((at_val (by omega)).trans (Nat.zero_add _)),
      gv_gate X G W cw cb D H h B hh f hf _ _ j.isLt, at_val (by omega)]
    unfold ext
    rw [if_neg (by omega)]
    exact congrArg (fun R => up X G W R _) (by omega)

theorem tile_apply (f : ℕ) (hf : f < 11) (r : Fin 256) (n : Fin 1024) :
    tile x3 x4 x6 x7 h top f (ix2 r n) = ∑ j : Fin 256,
      (fun q => actR (cnv X G W T cw cb (B + r.val) q) (up X G W (B + r.val) (2816 + q)) * D q n) (256 * f + j.val) := by
  unfold tile
  rw [downTile_apply]
  refine Finset.sum_congr rfl fun j _ => ?_
  have e : (at_ 2815 (256 * f) j.val : Fin 2816).val = 256 * f + j.val := at_val (by omega)
  have hw : wdRows x7 (256 * f) (ix2 j n) = half * D (256 * f + j.val) n := (H.down _ n).trans (congrArg (fun q => half * D q n) e)
  have ht0 : ∀ k : Fin 3, cwCols x3 (256 * f) (ix3 0 k j) = cw k (256 * f + j.val) := fun k => (H.taps k _).trans (congrArg (cw k) e)
  have hb : cbCols x4 (256 * f) (ix3 0 0 j) = cb (256 * f + j.val) := (H.bias _).trans (congrArg cb e)
  have hv : valCols (gv x6 h f) (ix2 r j) = up X G W (B + r.val) (2816 + (256 * f + j.val)) := by
    show gv x6 h f (ix2 r (at_ 511 256 j.val)) = _
    rw [show (at_ 511 256 j.val : Fin 512) = ⟨256 + j.val, by omega⟩ from Fin.ext (at_val (by omega))]
    exact gv_value X G W cw cb D H h B hh f hf r _ j.isLt _
  rw [actTile_apply, convTile_apply, hw, hv, hb, ht0, ht0, ht0, slot_apply X G W T cw cb D H h B hh top ht f hf 0 (by omega),
    slot_apply X G W T cw cb D H h B hh top ht f hf 8 (by omega), slot_apply X G W T cw cb D H h B hh top ht f hf 16 (by omega)]
  exact act_eq _ _ _

theorem tiles_apply (f : ℕ) (hf : f < 11) (r : Fin 256) (n : Fin 1024) :
    tiles x3 x4 x6 x7 h top f (ix2 r n) = ∑ q ∈ Finset.range (256 * (f + 1)),
      actR (cnv X G W T cw cb (B + r.val) q) (up X G W (B + r.val) (2816 + q)) * D q n := by
  induction f with
  | zero =>
    unfold tiles
    rw [tile_apply X G W T cw cb D H h B hh top ht 0 hf, ← sum_tile _ 0, Nat.mul_zero, Finset.sum_range_zero, zero_add]
  | succ f ih =>
    unfold tiles
    rw [← sum_tile, ← ih (by omega), ← tile_apply X G W T cw cb D H h B hh top ht (f + 1) hf]
    rfl

end

/-! ## A point of 512 rows -/

/-- Two stores of 256 rows, the lower half newest, at an index. -/
theorem two_halves (u w : Vec Ideal S256x1024 .f32) (i1 i2) (r : Fin 512) (n : Fin 1024) :
    View.canon ([⟨Rect.unit (s := S512x1024) ![256, 0] S256x1024.size i1, u⟩, ⟨Rect.unit (s := S512x1024) ![0, 0] S256x1024.size i2, w⟩] :
        List (View.Piece (Elt Ideal) S512x1024 .f32)) (ix2 r n)
      = if h : 256 ≤ r.val then u (ix2 ⟨r.val - 256, by omega⟩ n) else w (ix2 ⟨r.val, by omega⟩ n) := by
  rw [canon_unit]
  have hn : n.val < 1024 := n.isLt
  by_cases hr : 256 ≤ r.val
  · have hb : ∀ a : Fin 2, (![256, 0] : Fin 2 → ℕ) a ≤ ((ix2 r n : S512x1024.Idx) a).val ∧ ((ix2 r n : S512x1024.Idx) a).val < (![256, 0] : Fin 2 → ℕ) a + S256x1024.size a :=
      Fin.forall_fin_two.mpr ⟨⟨hr, by show r.val < 256 + 256; omega⟩, ⟨Nat.zero_le _, by show n.val < 0 + 1024; omega⟩⟩
    rw [dif_pos hb, dif_pos hr]
    refine congrArg u (funext fun a => ?_)
    fin_cases a
    · exact Fin.ext (by show r.val - 256 = r.val - 256; rfl)
    · exact Fin.ext (by show n.val - 0 = n.val; omega)
  · rw [dif_neg (fun hb => hr (hb 0).1), dif_neg hr, canon_unit]
    have hb : ∀ a : Fin 2, (![0, 0] : Fin 2 → ℕ) a ≤ ((ix2 r n : S512x1024.Idx) a).val ∧ ((ix2 r n : S512x1024.Idx) a).val < (![0, 0] : Fin 2 → ℕ) a + S256x1024.size a :=
      Fin.forall_fin_two.mpr ⟨⟨Nat.zero_le _, by show r.val < 0 + 256; omega⟩, ⟨Nat.zero_le _, by show n.val < 0 + 1024; omega⟩⟩
    rw [dif_pos hb]
    refine congrArg w (funext fun a => ?_)
    fin_cases a
    · exact Fin.ext (by show r.val - 0 = r.val; omega)
    · exact Fin.ext (by show n.val - 0 = n.val; omega)

section
variable (X : ℕ → Fin 1024 → EReal) (G : Fin 1024 → EReal) (W : Fin 1024 → ℕ → EReal) (T : ℕ → ℕ → EReal)
  (cw : Fin 3 → ℕ → EReal) (cb : ℕ → EReal) (D : ℕ → Fin 1024 → EReal)
  {x0 : Vec Ideal S512x1024 .f32} {x2 : Vec Ideal S1x1x1024 .f32} {x3 : Vec Ideal S1x3x2816 .f32} {x4 : Vec Ideal S1x1x2816 .f32}
  {x6 : Vec Ideal S1024x5632 .bf16} {x7 : Vec Ideal S2816x1024 .bf16} {xs : Vec Ideal S16x2816 .f32}
  (H : Operands G W cw cb D x2 x3 x4 x6 x7) (B : ℕ)
  (hx : ∀ (r : Fin 512) (d : Fin 1024), x0 (ix2 r d) = X (B + r.val) d)

include hx in
theorem xRows_apply (o : ℕ) (ho : o + 256 ≤ 512) (r : Fin 256) (d : Fin 1024) : xRows x0 o (ix2 r d) = X (B + o + r.val) d := by
  show x0 (ix2 (at_ 511 o r.val) d) = _
  rw [hx, at_val (by omega), Nat.add_assoc]

include H hx

/-- The rows a point carries on are the sixteen gate rows before the next point. -/
theorem carryOut_apply (i : Fin 16) (f : Fin 2816) :
    carryOut x6 (hRows x0 x2 256) (ix2 i f) = ext X G W T (B + 512 + i.val) f.val := by
  show lastRows (gv x6 (hRows x0 x2 256) (f.val / 256)) (ix2 i ⟨f.val % 256, _⟩) = _
  rw [last_apply X G W T cw cb D H _ (B + 256) (hRows_apply X G W cw cb D H (B + 256) x0 256 (by omega) (xRows_apply X B hx 256 (by omega)))
    _ (by omega)]
  show ext X G W T _ (256 * (f.val / 256) + f.val % 256) = _
  rw [Nat.div_add_mod]

variable (hs : ∀ (i : Fin 16) (f : Fin 2816), xs (ix2 i f) = ext X G W T (B + i.val) f.val)

include hs

/-- The rows a point outputs are the layer's. -/
theorem blockOut_apply (r : Fin 512) (n : Fin 1024) :
    View.canon (blockOut x0 x2 x3 x4 x6 x7 xs) (ix2 r n) = out X G W T cw cb D (B + r.val) n := by
  have e0 := xRows_apply X B hx 0 (by omega)
  have e1 := xRows_apply X B hx 256 (by omega)
  have h0 := hRows_apply X G W cw cb D H (B + 0) x0 0 (by omega) e0
  have h1 := hRows_apply X G W cw cb D H (B + 256) x0 256 (by omega) e1
  have ht : ∀ f < 11, ∀ (i : Fin 16) (j : Fin 256), topCols xs (256 * f) (ix2 i j) = ext X G W T (B + 0 + i.val) (256 * f + j.val) := by
    intro f hf i j
    show xs (ix2 i (at_ 2815 (256 * f) j.val)) = _
    rw [hs, at_val (by omega), Nat.add_zero]
  have hl := last_apply X G W T cw cb D H _ (B + 0) h0
  have t0 := tiles_apply X G W T cw cb D H _ (B + 0) h0 _ ht 10 (by omega)
  have t1 := tiles_apply X G W T cw cb D H _ (B + 256) h1 (fun f => lastRows (gv x6 (hRows x0 x2 0) f)) hl 10 (by omega)
  unfold blockOut out
  rw [two_halves]
  by_cases hr : 256 ≤ r.val
  · rw [dif_pos hr]
    show xRows x0 256 _ + tiles x3 x4 x6 x7 _ _ 10 _ = _
    rw [e1, t1, show B + 256 + (⟨r.val - 256, by omega⟩ : Fin 256).val = B + r.val from by show B + 256 + (r.val - 256) = _; omega]
  · rw [dif_neg hr]
    show xRows x0 0 _ + tiles x3 x4 x6 x7 _ _ 10 _ = _
    rw [e0, t0, show B + 0 + (⟨r.val, by omega⟩ : Fin 256).val = B + r.val from rfl]

end

end Cert.Ffn
-- ==== Proof.Ffn.Host.lean ====
/- What the host prepares for the launch, at an index: the gain and the bias with a unit axis put in, the up projection's
   columns interleaved tile by tile (256 gate columns, then the 256 value columns beside them), and the halved down
   projection. -/
module

public import proofs.«01_k».proof.Proof.Ffn.Closed

@[expose] public section

set_option maxRecDepth 16384

noncomputable section

namespace Cert.Ffn

open Cert.Kernel2Ideal Cert.Kernel2Ideal.Gen Idealize.ShloMosaic Idealize.ShloMosaic.TcCoe Idealize.SL.Sem

/-- 256 columns from column `o` of the up projection. -/
def upCols (A : Vec Ideal S1024x5632 .f32) (o : ℕ) : Vec Ideal S1024x256 .f32 := fun j => A (ix2 (j 0) (at_ 5631 o (j 1).val))

theorem slice_upCols (A : Vec Ideal S1024x5632 .f32) (o : ℕ) (h : S1024x5632.Slices ![0, o] S1024x256) :
    (extractStridedSlice S1024x256 ![0, o] A h : Vec Ideal S1024x256 .f32) = upCols A o := by
  funext j
  unfold extractStridedSlice upCols
  have h1 : (j 1).val < 256 := (j 1).isLt
  have ho : o + 256 ≤ 5632 := h.2 1
  refine congrArg A (funext fun a => ?_)
  fin_cases a
  · exact Fin.ext (by show 0 + (j 0).val = (j 0).val; omega)
  · exact Fin.ext (by show o + (j 1).val = min (o + (j 1).val) 5631; omega)

/-- Piece `k` of the interleaved columns: of tile `k / 2`, its gate columns or its value columns. -/
def piece (A : Vec Ideal S1024x5632 .f32) (k : ℕ) : Vec Ideal S1024x256 .f32 := upCols A (2816 * (k % 2) + 256 * (k / 2))

/-- The first sixteen pieces, side by side. -/
def wide (A : Vec Ideal S1024x5632 .f32) : Vec Ideal S1024x4096 .f32 :=
  concatenate S1024x4096 1 (List.ofFn fun k : Fin 16 => (⟨S1024x256, piece A k.val⟩ : (s : Shape) × (s.Idx → EReal)))
    concatenates_S1024x256_S1024x256_S1024x256_S1024x256_S1024x256_S1024x256_S1024x256_S1024x256_S1024x256_S1024x256_S1024x256_S1024x256_S1024x256_S1024x256_S1024x256_S1024x256_S1024x4096_d1

/-- The other six, side by side. -/
def rest (A : Vec Ideal S1024x5632 .f32) : Vec Ideal S1024x1536 .f32 :=
  concatenate S1024x1536 1 (List.ofFn fun k : Fin 6 => (⟨S1024x256, piece A (16 + k.val)⟩ : (s : Shape) × (s.Idx → EReal)))
    concatenates_S1024x256_S1024x256_S1024x256_S1024x256_S1024x256_S1024x256_S1024x1536_d1

/-- The interleaved columns, put together from the two. -/
def interleave (A : Vec Ideal S1024x5632 .f32) : Vec Ideal S1024x5632 .f32 :=
  concatenate S1024x5632 1 [⟨S1024x4096, wide A⟩, ⟨S1024x1536, rest A⟩] concatenates_S1024x4096_S1024x1536_S1024x5632_d1

theorem wide_apply (A : Vec Ideal S1024x5632 .f32) (d : Fin 1024) (k j : ℕ) (hk : k < 16) (hj : j < 256) (h : 256 * k + j < 4096) :
    wide A (ix2 d ⟨256 * k + j, h⟩) = piece A k (ix2 d ⟨j, hj⟩) :=
  concatenate_ofFn_apply (t := S1024x4096) (s₁ := S1024x256) 1 (fun k : Fin 16 => piece A k.val) _ rfl 256 rfl
    (ix2 d ⟨256 * k + j, h⟩ : S1024x4096.Idx) ⟨k, hk⟩ (by show (256 * k + j) / 256 = k; omega) (ix2 d ⟨j, hj⟩ : S1024x256.Idx)
    (by show j = (256 * k + j) % 256; omega) (Fin.forall_fin_two.mpr ⟨fun _ => rfl, fun h => absurd rfl h⟩)

theorem rest_apply (A : Vec Ideal S1024x5632 .f32) (d : Fin 1024) (k j : ℕ) (hk : k < 6) (hj : j < 256) (h : 256 * k + j < 1536) :
    rest A (ix2 d ⟨256 * k + j, h⟩) = piece A (16 + k) (ix2 d ⟨j, hj⟩) :=
  concatenate_ofFn_apply (t := S1024x1536) (s₁ := S1024x256) 1 (fun k : Fin 6 => piece A (16 + k.val)) _ rfl 256 rfl
    (ix2 d ⟨256 * k + j, h⟩ : S1024x1536.Idx) ⟨k, hk⟩ (by show (256 * k + j) / 256 = k; omega) (ix2 d ⟨j, hj⟩ : S1024x256.Idx)
    (by show j = (256 * k + j) % 256; omega) (Fin.forall_fin_two.mpr ⟨fun _ => rfl, fun h => absurd rfl h⟩)

/-- Column `256 * k + j` of the interleaved columns is column `j` of piece `k`. -/
theorem interleave_apply (A : Vec Ideal S1024x5632 .f32) (d : Fin 1024) (k j : ℕ) (hk : k < 22) (hj : j < 256) (h : 256 * k + j < 5632) :
    interleave A (ix2 d ⟨256 * k + j, h⟩) = piece A k (ix2 d ⟨j, hj⟩) := by
  by_cases h16 : k < 16
  · rw [← wide_apply A d k j h16 hj (by omega)]
    exact concatenate_pair_apply_left (t := S1024x5632) 1 (wide A) (rest A) _ _ rfl (ix2 d ⟨256 * k + j, by omega⟩ : S1024x4096.Idx)
      (Fin.forall_fin_two.mpr ⟨rfl, rfl⟩)
  · have e := rest_apply A d (k - 16) j (by omega) hj (by omega)
    rw [show 16 + (k - 16) = k by omega] at e
    rw [← e]
    exact concatenate_pair_apply_right (t := S1024x5632) 1 (wide A) (rest A) _ _ rfl rfl (ix2 d ⟨256 * (k - 16) + j, by omega⟩ : S1024x1536.Idx)
      (Fin.forall_fin_two.mpr ⟨fun _ => rfl, fun h => absurd rfl h⟩) (by show 256 * (k - 16) + j + 4096 = 256 * k + j; omega)

variable (m : (ℓ : Loc nD τ sig) → Buf (Elt Ideal) ℓ)

/-- The gain's array, a unit axis put in. -/
theorem V_gain (c : Dev nD) : V m c main_v33 = (broadcastInDim S2x1x1024 ![0, 2] bcast_S2x1024_S2x1x1024_0_2 (m ((c : Thread nD τ).loc main_arg2) : Vec Ideal S2x1024 .f32)) := by
  show StableHlo.after hostOps0 (fun b => m (c, b)) (Proc.devRef .tc main_v33) = _
  after_results_simp

/-- The bias's array, a unit axis put in. -/
theorem V_bias (c : Dev nD) : V m c main_v34 = (broadcastInDim S2x1x2816 ![0, 2] bcast_S2x2816_S2x1x2816_0_2 (m ((c : Thread nD τ).loc main_arg5) : Vec Ideal S2x2816 .f32)) := by
  show StableHlo.after hostOps0 (fun b => m (c, b)) (Proc.devRef .tc main_v34) = _
  after_results_simp

/-- The layer's down projection, halved. -/
def downHalf (A : FVec Ideal S2x2816x1024 .f32) : FVec Ideal S2816x1024 .bf16 :=
  truncf .bf16 (mulf (broadcastInDim S2816x1024 ![] bcast_S_S2816x1024 (constant S_ FTy.f32 0x3F000000#32))
    (shapeCast S2816x1024 (extractStridedSlice S1x2816x1024 ![0, 0, 0] A slices_S2x2816x1024_S1x2816x1024_0_0_0) shapeCasts_S1x2816x1024_S2816x1024 : FVec Ideal S2816x1024 .f32)) bitsLt_bf16_f32

theorem downHalf_apply (A : Vec Ideal S2x2816x1024 .f32) (f : Fin 2816) (n : Fin 1024) : downHalf A (ix2 f n) = half * A (ix3 0 f n) := by
  unfold half
  pointwise [downHalf]

theorem V_down (c : Dev nD) : V m c main_v32 = downHalf (m ((c : Thread nD τ).loc main_arg6)) := by
  show StableHlo.after hostOps0 (fun b => m (c, b)) (Proc.devRef .tc main_v32) = _
  after_results_simp
  rfl

/-- The layer's up projection. -/
def upMat (A : Vec Ideal S2x1024x5632 .f32) : Vec Ideal S1024x5632 .f32 :=
  shapeCast S1024x5632 (extractStridedSlice S1x1024x5632 ![0, 0, 0] A slices_S2x1024x5632_S1x1024x5632_0_0_0) shapeCasts_S1x1024x5632_S1024x5632

theorem upMat_apply (A : Vec Ideal S2x1024x5632 .f32) (d : Fin 1024) (n : Fin 5632) : upMat A (ix2 d n) = A (ix3 0 d n) := by
  pointwise [upMat]

/-! Pieces put side by side, once each is known. -/

theorem wide_eq (A : Vec Ideal S1024x5632 .f32) {p0 p1 p2 p3 p4 p5 p6 p7 p8 p9 p10 p11 p12 p13 p14 p15 : Vec Ideal S1024x256 .f32}
    (h0 : p0 = piece A 0) (h1 : p1 = piece A 1) (h2 : p2 = piece A 2) (h3 : p3 = piece A 3) (h4 : p4 = piece A 4) (h5 : p5 = piece A 5) (h6 : p6 = piece A 6) (h7 : p7 = piece A 7) (h8 : p8 = piece A 8) (h9 : p9 = piece A 9) (h10 : p10 = piece A 10) (h11 : p11 = piece A 11) (h12 : p12 = piece A 12) (h13 : p13 = piece A 13) (h14 : p14 = piece A 14) (h15 : p15 = piece A 15) :
    (concatenate S1024x4096 1 [⟨S1024x256, p0⟩, ⟨S1024x256, p1⟩, ⟨S1024x256, p2⟩, ⟨S1024x256, p3⟩, ⟨S1024x256, p4⟩, ⟨S1024x256, p5⟩, ⟨S1024x256, p6⟩, ⟨S1024x256, p7⟩, ⟨S1024x256, p8⟩, ⟨S1024x256, p9⟩, ⟨S1024x256, p10⟩, ⟨S1024x256, p11⟩, ⟨S1024x256, p12⟩, ⟨S1024x256, p13⟩, ⟨S1024x256, p14⟩, ⟨S1024x256, p15⟩] concatenates_S1024x256_S1024x256_S1024x256_S1024x256_S1024x256_S1024x256_S1024x256_S1024x256_S1024x256_S1024x256_S1024x256_S1024x256_S1024x256_S1024x256_S1024x256_S1024x256_S1024x4096_d1 : Vec Ideal S1024x4096 .f32) = wide A := by
  subst h0 h1 h2 h3 h4 h5 h6 h7 h8 h9 h10 h11 h12 h13 h14 h15
  rfl

theorem rest_eq (A : Vec Ideal S1024x5632 .f32) {p0 p1 p2 p3 p4 p5 : Vec Ideal S1024x256 .f32}
    (h0 : p0 = piece A 16) (h1 : p1 = piece A 17) (h2 : p2 = piece A 18) (h3 : p3 = piece A 19) (h4 : p4 = piece A 20) (h5 : p5 = piece A 21) :
    (concatenate S1024x1536 1 [⟨S1024x256, p0⟩, ⟨S1024x256, p1⟩, ⟨S1024x256, p2⟩, ⟨S1024x256, p3⟩, ⟨S1024x256, p4⟩, ⟨S1024x256, p5⟩] concatenates_S1024x256_S1024x256_S1024x256_S1024x256_S1024x256_S1024x256_S1024x1536_d1 : Vec Ideal S1024x1536 .f32) = rest A := by
  subst h0 h1 h2 h3 h4 h5
  rfl

theorem V_up (c : Dev nD) : V m c main_v27 = (truncf .bf16 (interleave (upMat (m ((c : Thread nD τ).loc main_arg3))) : FVec Ideal S1024x5632 .f32) bitsLt_bf16_f32 : FVec Ideal S1024x5632 .bf16) := by
  show StableHlo.after hostOps0 (fun b => m (c, b)) (Proc.devRef .tc main_v27) = _
  after_results
  refine congrArg (fun x => truncf .bf16 (x : FVec Ideal S1024x5632 .f32) bitsLt_bf16_f32)
    (congrArg₂ (fun x y => (concatenate S1024x5632 1 [⟨S1024x4096, x⟩, ⟨S1024x1536, y⟩] concatenates_S1024x4096_S1024x1536_S1024x5632_d1 : Vec Ideal S1024x5632 .f32))
      (wide_eq _ ?_ ?_ ?_ ?_ ?_ ?_ ?_ ?_ ?_ ?_ ?_ ?_ ?_ ?_ ?_ ?_ ) (rest_eq _ ?_ ?_ ?_ ?_ ?_ ?_ ))
  all_goals
    refine Eq.trans ?_ (slice_upCols _ _ (by decide))
    dsimp only [Matrix.cons_val]
    after_results_simp
    rfl

end Cert.Ffn
-- ==== Proof.Ffn.Point.lean ====
/- What the three kinds of grid point (the first, the middle ones, the last) leave: in their rows of the output, in the rows
   carried to the next point, and, at the last, in the convolution's final rows. -/
module

public import proofs.«01_k».proof.Proof.Ffn.Block

@[expose] public section

set_option maxRecDepth 16384

noncomputable section

namespace Cert.Ffn

open Cert.Kernel2Ideal Cert.Kernel2Ideal.Gen Idealize.ShloMosaic Idealize.ShloMosaic.TcCoe Idealize.SL.Sem

set_option maxHeartbeats 4000000 in
/-- The first point: the output rows it leaves. -/
theorem out_A (c : Dev nD) (i : grid0.Coords) (arg1 : Memref sig .tc .vmem S512x1024 .f32) (harg1 : arg1.IsWhole) (arg2 : Memref sig .tc .vmem S16x2816 .f32) (harg2 : arg2.IsWhole) (arg3 : Memref sig .tc .vmem S1x1x1024 .f32) (harg3 : arg3.IsWhole) (arg4 : Memref sig .tc .vmem S1x3x2816 .f32) (harg4 : arg4.IsWhole) (arg5 : Memref sig .tc .vmem S1x1x2816 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S16x2816 .f32) (harg10 : arg10.IsWhole) (arg11 : Memref sig .tc .vmem S16x2816 .f32) (harg11 : arg11.IsWhole) (arg12 : Memref sig .tc .vmem S272x512 .f32) (harg12 : arg12.IsWhole) (arg13 : Memref sig .tc .vmem S272x512 .f32) (harg13 : arg13.IsWhole) (arg14 : Memref sig .tc .vmem S272x512 .f32) (harg14 : arg14.IsWhole) (arg15 : Memref sig .tc .vmem S272x512 .f32) (harg15 : arg15.IsWhole) (arg16 : Memref sig .tc .vmem S272x512 .f32) (harg16 : arg16.IsWhole) (hc0 : cond0_0 i) (hc1 : ¬cond0_1 i)
    (x0 : Vec Ideal S512x1024 .f32) (x1 : Vec Ideal S16x2816 .f32) (x2 : Vec Ideal S1x1x1024 .f32) (x3 : Vec Ideal S1x3x2816 .f32) (x4 : Vec Ideal S1x1x2816 .f32) (x5 : Vec Ideal S1x1024 .f32) (x6 : Vec Ideal S1024x5632 .bf16) (x7 : Vec Ideal S2816x1024 .bf16) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = View.canon (blockOut x0 x2 x3 x4 x6 x7 x1) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, shapeCast_self]
  simp only [rd_wdRows', fold_gvTile, fold_convTile, fold_actTile, fold_downTile]
  simp only [blockOut, tiles, tile, gv, hRows, Nat.reduceMul, Nat.reduceAdd]
  rfl

set_option maxHeartbeats 4000000 in
/-- The first point: the rows it carries on. -/
theorem carry_A (c : Dev nD) (i : grid0.Coords) (arg1 : Memref sig .tc .vmem S512x1024 .f32) (harg1 : arg1.IsWhole) (arg2 : Memref sig .tc .vmem S16x2816 .f32) (harg2 : arg2.IsWhole) (arg3 : Memref sig .tc .vmem S1x1x1024 .f32) (harg3 : arg3.IsWhole) (arg4 : Memref sig .tc .vmem S1x3x2816 .f32) (harg4 : arg4.IsWhole) (arg5 : Memref sig .tc .vmem S1x1x2816 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S16x2816 .f32) (harg10 : arg10.IsWhole) (arg11 : Memref sig .tc .vmem S16x2816 .f32) (harg11 : arg11.IsWhole) (arg12 : Memref sig .tc .vmem S272x512 .f32) (harg12 : arg12.IsWhole) (arg13 : Memref sig .tc .vmem S272x512 .f32) (harg13 : arg13.IsWhole) (arg14 : Memref sig .tc .vmem S272x512 .f32) (harg14 : arg14.IsWhole) (arg15 : Memref sig .tc .vmem S272x512 .f32) (harg15 : arg15.IsWhole) (arg16 : Memref sig .tc .vmem S272x512 .f32) (harg16 : arg16.IsWhole) (hc0 : cond0_0 i) (hc1 : ¬cond0_1 i)
    (x0 : Vec Ideal S512x1024 .f32) (x1 : Vec Ideal S16x2816 .f32) (x2 : Vec Ideal S1x1x1024 .f32) (x3 : Vec Ideal S1x3x2816 .f32) (x4 : Vec Ideal S1x1x2816 .f32) (x5 : Vec Ideal S1x1024 .f32) (x6 : Vec Ideal S1024x5632 .bf16) (x7 : Vec Ideal S2816x1024 .bf16) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = carryOut x6 (hRows x0 x2 256) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, shapeCast_self]
  simp only [fold_gvTile]
  funext y
  have hy : (y 1).val < 2816 := (y 1).isLt
  refine carry_step x6 (hRows x0 x2 256) _ _ 10 _ _ y rfl rfl fun h10 => carry_step x6 (hRows x0 x2 256) _ _ 9 _ _ y rfl rfl fun h9 => carry_step x6 (hRows x0 x2 256) _ _ 8 _ _ y rfl rfl fun h8 => carry_step x6 (hRows x0 x2 256) _ _ 7 _ _ y rfl rfl fun h7 => carry_step x6 (hRows x0 x2 256) _ _ 6 _ _ y rfl rfl fun h6 => carry_step x6 (hRows x0 x2 256) _ _ 5 _ _ y rfl rfl fun h5 => carry_step x6 (hRows x0 x2 256) _ _ 4 _ _ y rfl rfl fun h4 => carry_step x6 (hRows x0 x2 256) _ _ 3 _ _ y rfl rfl fun h3 => carry_step x6 (hRows x0 x2 256) _ _ 2 _ _ y rfl rfl fun h2 => carry_step x6 (hRows x0 x2 256) _ _ 1 _ _ y rfl rfl fun h1 => carry_step x6 (hRows x0 x2 256) _ _ 0 _ _ y rfl rfl fun h0 => absurd hy (by omega)

set_option maxHeartbeats 4000000 in
/-- A middle point: the output rows it leaves. -/
theorem out_B (c : Dev nD) (i : grid0.Coords) (arg1 : Memref sig .tc .vmem S512x1024 .f32) (harg1 : arg1.IsWhole) (arg2 : Memref sig .tc .vmem S16x2816 .f32) (harg2 : arg2.IsWhole) (arg3 : Memref sig .tc .vmem S1x1x1024 .f32) (harg3 : arg3.IsWhole) (arg4 : Memref sig .tc .vmem S1x3x2816 .f32) (harg4 : arg4.IsWhole) (arg5 : Memref sig .tc .vmem S1x1x2816 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S16x2816 .f32) (harg10 : arg10.IsWhole) (arg11 : Memref sig .tc .vmem S16x2816 .f32) (harg11 : arg11.IsWhole) (arg12 : Memref sig .tc .vmem S272x512 .f32) (harg12 : arg12.IsWhole) (arg13 : Memref sig .tc .vmem S272x512 .f32) (harg13 : arg13.IsWhole) (arg14 : Memref sig .tc .vmem S272x512 .f32) (harg14 : arg14.IsWhole) (arg15 : Memref sig .tc .vmem S272x512 .f32) (harg15 : arg15.IsWhole) (arg16 : Memref sig .tc .vmem S272x512 .f32) (harg16 : arg16.IsWhole) (hc0 : ¬cond0_0 i) (hc1 : ¬cond0_1 i)
    (x0 : Vec Ideal S512x1024 .f32) (x1 : Vec Ideal S16x2816 .f32) (x2 : Vec Ideal S1x1x1024 .f32) (x3 : Vec Ideal S1x3x2816 .f32) (x4 : Vec Ideal S1x1x2816 .f32) (x5 : Vec Ideal S1x1024 .f32) (x6 : Vec Ideal S1024x5632 .bf16) (x7 : Vec Ideal S2816x1024 .bf16) (xs0 : Vec Ideal S16x2816 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = View.canon (blockOut x0 x2 x3 x4 x6 x7 xs0) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_B
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, shapeCast_self]
  simp only [rd_wdRows', fold_gvTile, fold_convTile, fold_actTile, fold_downTile]
  simp only [blockOut, tiles, tile, gv, hRows, Nat.reduceMul, Nat.reduceAdd]
  rfl

set_option maxHeartbeats 4000000 in
/-- A middle point: the rows it carries on. -/
theorem carry_B (c : Dev nD) (i : grid0.Coords) (arg1 : Memref sig .tc .vmem S512x1024 .f32) (harg1 : arg1.IsWhole) (arg2 : Memref sig .tc .vmem S16x2816 .f32) (harg2 : arg2.IsWhole) (arg3 : Memref sig .tc .vmem S1x1x1024 .f32) (harg3 : arg3.IsWhole) (arg4 : Memref sig .tc .vmem S1x3x2816 .f32) (harg4 : arg4.IsWhole) (arg5 : Memref sig .tc .vmem S1x1x2816 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S16x2816 .f32) (harg10 : arg10.IsWhole) (arg11 : Memref sig .tc .vmem S16x2816 .f32) (harg11 : arg11.IsWhole) (arg12 : Memref sig .tc .vmem S272x512 .f32) (harg12 : arg12.IsWhole) (arg13 : Memref sig .tc .vmem S272x512 .f32) (harg13 : arg13.IsWhole) (arg14 : Memref sig .tc .vmem S272x512 .f32) (harg14 : arg14.IsWhole) (arg15 : Memref sig .tc .vmem S272x512 .f32) (harg15 : arg15.IsWhole) (arg16 : Memref sig .tc .vmem S272x512 .f32) (harg16 : arg16.IsWhole) (hc0 : ¬cond0_0 i) (hc1 : ¬cond0_1 i)
    (x0 : Vec Ideal S512x1024 .f32) (x1 : Vec Ideal S16x2816 .f32) (x2 : Vec Ideal S1x1x1024 .f32) (x3 : Vec Ideal S1x3x2816 .f32) (x4 : Vec Ideal S1x1x2816 .f32) (x5 : Vec Ideal S1x1024 .f32) (x6 : Vec Ideal S1024x5632 .bf16) (x7 : Vec Ideal S2816x1024 .bf16) (xs0 : Vec Ideal S16x2816 .f32) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = carryOut x6 (hRows x0 x2 256) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_B
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, shapeCast_self]
  simp only [fold_gvTile]
  funext y
  have hy : (y 1).val < 2816 := (y 1).isLt
  refine carry_step x6 (hRows x0 x2 256) _ _ 10 _ _ y rfl rfl fun h10 => carry_step x6 (hRows x0 x2 256) _ _ 9 _ _ y rfl rfl fun h9 => carry_step x6 (hRows x0 x2 256) _ _ 8 _ _ y rfl rfl fun h8 => carry_step x6 (hRows x0 x2 256) _ _ 7 _ _ y rfl rfl fun h7 => carry_step x6 (hRows x0 x2 256) _ _ 6 _ _ y rfl rfl fun h6 => carry_step x6 (hRows x0 x2 256) _ _ 5 _ _ y rfl rfl fun h5 => carry_step x6 (hRows x0 x2 256) _ _ 4 _ _ y rfl rfl fun h4 => carry_step x6 (hRows x0 x2 256) _ _ 3 _ _ y rfl rfl fun h3 => carry_step x6 (hRows x0 x2 256) _ _ 2 _ _ y rfl rfl fun h2 => carry_step x6 (hRows x0 x2 256) _ _ 1 _ _ y rfl rfl fun h1 => carry_step x6 (hRows x0 x2 256) _ _ 0 _ _ y rfl rfl fun h0 => absurd hy (by omega)

set_option maxHeartbeats 4000000 in
/-- The last point: the output rows it leaves. -/
theorem out_C (c : Dev nD) (i : grid0.Coords) (arg1 : Memref sig .tc .vmem S512x1024 .f32) (harg1 : arg1.IsWhole) (arg2 : Memref sig .tc .vmem S16x2816 .f32) (harg2 : arg2.IsWhole) (arg3 : Memref sig .tc .vmem S1x1x1024 .f32) (harg3 : arg3.IsWhole) (arg4 : Memref sig .tc .vmem S1x3x2816 .f32) (harg4 : arg4.IsWhole) (arg5 : Memref sig .tc .vmem S1x1x2816 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S16x2816 .f32) (harg10 : arg10.IsWhole) (arg11 : Memref sig .tc .vmem S16x2816 .f32) (harg11 : arg11.IsWhole) (arg12 : Memref sig .tc .vmem S272x512 .f32) (harg12 : arg12.IsWhole) (arg13 : Memref sig .tc .vmem S272x512 .f32) (harg13 : arg13.IsWhole) (arg14 : Memref sig .tc .vmem S272x512 .f32) (harg14 : arg14.IsWhole) (arg15 : Memref sig .tc .vmem S272x512 .f32) (harg15 : arg15.IsWhole) (arg16 : Memref sig .tc .vmem S272x512 .f32) (harg16 : arg16.IsWhole) (hc0 : ¬cond0_0 i) (hc1 : cond0_1 i)
    (x0 : Vec Ideal S512x1024 .f32) (x1 : Vec Ideal S16x2816 .f32) (x2 : Vec Ideal S1x1x1024 .f32) (x3 : Vec Ideal S1x3x2816 .f32) (x4 : Vec Ideal S1x1x2816 .f32) (x5 : Vec Ideal S1x1024 .f32) (x6 : Vec Ideal S1024x5632 .bf16) (x7 : Vec Ideal S2816x1024 .bf16) (xs0 : Vec Ideal S16x2816 .f32) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = View.canon (blockOut x0 x2 x3 x4 x6 x7 xs0) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_C
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, shapeCast_self]
  simp only [rd_wdRows', fold_gvTile, fold_convTile, fold_actTile, fold_downTile]
  simp only [blockOut, tiles, tile, gv, hRows, Nat.reduceMul, Nat.reduceAdd]
  rfl

set_option maxHeartbeats 4000000 in
/-- The last point: the rows it carries on. -/
theorem carry_C (c : Dev nD) (i : grid0.Coords) (arg1 : Memref sig .tc .vmem S512x1024 .f32) (harg1 : arg1.IsWhole) (arg2 : Memref sig .tc .vmem S16x2816 .f32) (harg2 : arg2.IsWhole) (arg3 : Memref sig .tc .vmem S1x1x1024 .f32) (harg3 : arg3.IsWhole) (arg4 : Memref sig .tc .vmem S1x3x2816 .f32) (harg4 : arg4.IsWhole) (arg5 : Memref sig .tc .vmem S1x1x2816 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S16x2816 .f32) (harg10 : arg10.IsWhole) (arg11 : Memref sig .tc .vmem S16x2816 .f32) (harg11 : arg11.IsWhole) (arg12 : Memref sig .tc .vmem S272x512 .f32) (harg12 : arg12.IsWhole) (arg13 : Memref sig .tc .vmem S272x512 .f32) (harg13 : arg13.IsWhole) (arg14 : Memref sig .tc .vmem S272x512 .f32) (harg14 : arg14.IsWhole) (arg15 : Memref sig .tc .vmem S272x512 .f32) (harg15 : arg15.IsWhole) (arg16 : Memref sig .tc .vmem S272x512 .f32) (harg16 : arg16.IsWhole) (hc0 : ¬cond0_0 i) (hc1 : cond0_1 i)
    (x0 : Vec Ideal S512x1024 .f32) (x1 : Vec Ideal S16x2816 .f32) (x2 : Vec Ideal S1x1x1024 .f32) (x3 : Vec Ideal S1x3x2816 .f32) (x4 : Vec Ideal S1x1x2816 .f32) (x5 : Vec Ideal S1x1024 .f32) (x6 : Vec Ideal S1024x5632 .bf16) (x7 : Vec Ideal S2816x1024 .bf16) (xs0 : Vec Ideal S16x2816 .f32) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = carryOut x6 (hRows x0 x2 256) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_C
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, shapeCast_self]
  simp only [fold_gvTile]
  funext y
  have hy : (y 1).val < 2816 := (y 1).isLt
  refine carry_step x6 (hRows x0 x2 256) _ _ 10 _ _ y rfl rfl fun h10 => carry_step x6 (hRows x0 x2 256) _ _ 9 _ _ y rfl rfl fun h9 => carry_step x6 (hRows x0 x2 256) _ _ 8 _ _ y rfl rfl fun h8 => carry_step x6 (hRows x0 x2 256) _ _ 7 _ _ y rfl rfl fun h7 => carry_step x6 (hRows x0 x2 256) _ _ 6 _ _ y rfl rfl fun h6 => carry_step x6 (hRows x0 x2 256) _ _ 5 _ _ y rfl rfl fun h5 => carry_step x6 (hRows x0 x2 256) _ _ 4 _ _ y rfl rfl fun h4 => carry_step x6 (hRows x0 x2 256) _ _ 3 _ _ y rfl rfl fun h3 => carry_step x6 (hRows x0 x2 256) _ _ 2 _ _ y rfl rfl fun h2 => carry_step x6 (hRows x0 x2 256) _ _ 1 _ _ y rfl rfl fun h1 => carry_step x6 (hRows x0 x2 256) _ _ 0 _ _ y rfl rfl fun h0 => absurd hy (by omega)

set_option maxHeartbeats 4000000 in
/-- The last point: the convolution's final rows are the rows carried on. -/
theorem final_C (c : Dev nD) (i : grid0.Coords) (arg1 : Memref sig .tc .vmem S512x1024 .f32) (harg1 : arg1.IsWhole) (arg2 : Memref sig .tc .vmem S16x2816 .f32) (harg2 : arg2.IsWhole) (arg3 : Memref sig .tc .vmem S1x1x1024 .f32) (harg3 : arg3.IsWhole) (arg4 : Memref sig .tc .vmem S1x3x2816 .f32) (harg4 : arg4.IsWhole) (arg5 : Memref sig .tc .vmem S1x1x2816 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S16x2816 .f32) (harg10 : arg10.IsWhole) (arg11 : Memref sig .tc .vmem S16x2816 .f32) (harg11 : arg11.IsWhole) (arg12 : Memref sig .tc .vmem S272x512 .f32) (harg12 : arg12.IsWhole) (arg13 : Memref sig .tc .vmem S272x512 .f32) (harg13 : arg13.IsWhole) (arg14 : Memref sig .tc .vmem S272x512 .f32) (harg14 : arg14.IsWhole) (arg15 : Memref sig .tc .vmem S272x512 .f32) (harg15 : arg15.IsWhole) (arg16 : Memref sig .tc .vmem S272x512 .f32) (harg16 : arg16.IsWhole) (hc0 : ¬cond0_0 i) (hc1 : cond0_1 i)
    (x0 : Vec Ideal S512x1024 .f32) (x1 : Vec Ideal S16x2816 .f32) (x2 : Vec Ideal S1x1x1024 .f32) (x3 : Vec Ideal S1x3x2816 .f32) (x4 : Vec Ideal S1x1x2816 .f32) (x5 : Vec Ideal S1x1024 .f32) (x6 : Vec Ideal S1024x5632 .bf16) (x7 : Vec Ideal S2816x1024 .bf16) (xs0 : Vec Ideal S16x2816 .f32) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = carryOut x6 (hRows x0 x2 256) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_C
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, shapeCast_self]
  simp only [fold_gvTile]
  refine (whole_canon _ _ _).trans ((carry_whole _ _ _).trans ?_)
  funext y
  have hy : (y 1).val < 2816 := (y 1).isLt
  refine carry_step x6 (hRows x0 x2 256) _ _ 10 _ _ y rfl rfl fun h10 => carry_step x6 (hRows x0 x2 256) _ _ 9 _ _ y rfl rfl fun h9 => carry_step x6 (hRows x0 x2 256) _ _ 8 _ _ y rfl rfl fun h8 => carry_step x6 (hRows x0 x2 256) _ _ 7 _ _ y rfl rfl fun h7 => carry_step x6 (hRows x0 x2 256) _ _ 6 _ _ y rfl rfl fun h6 => carry_step x6 (hRows x0 x2 256) _ _ 5 _ _ y rfl rfl fun h5 => carry_step x6 (hRows x0 x2 256) _ _ 4 _ _ y rfl rfl fun h4 => carry_step x6 (hRows x0 x2 256) _ _ 3 _ _ y rfl rfl fun h3 => carry_step x6 (hRows x0 x2 256) _ _ 2 _ _ y rfl rfl fun h2 => carry_step x6 (hRows x0 x2 256) _ _ 1 _ _ y rfl rfl fun h1 => carry_step x6 (hRows x0 x2 256) _ _ 0 _ _ y rfl rfl fun h0 => absurd hy (by omega)

end Cert.Ffn
-- ==== Proof.Ffn.Carry.lean ====
/- The launch's arrays: what each point reads of the arguments, the carried rows after every point, and the two results at
   an index. -/
module

public import proofs.«01_k».proof.Proof.Ffn.Host
public import proofs.«01_k».proof.Proof.Ffn.Point

@[expose] public section

set_option maxRecDepth 16384

noncomputable section

namespace Cert.Ffn

open Cert.Kernel2Ideal Cert.Kernel2Ideal.Gen Cert.Kernel2Ideal.Value Idealize.ShloMosaic Idealize.ShloMosaic.TcCoe Idealize.SL.Sem

/-! ## The arguments as the layer's scalars -/

def argX (a : Vec Ideal S16384x1024 .f32) (R : ℕ) (d : Fin 1024) : EReal := a (ix2 (at_ 16383 0 R) d)
def argT (a : Vec Ideal S16x2816 .f32) (i f : ℕ) : EReal := a (ix2 (at_ 15 0 i) (at_ 2815 0 f))
/-! Those with a slice for each layer, at layer `k`. -/

def argG (k : Fin 2) (a : Vec Ideal S2x1024 .f32) (d : Fin 1024) : EReal := a (ix2 k d)
def argW (k : Fin 2) (a : Vec Ideal S2x1024x5632 .f32) (d : Fin 1024) (n : ℕ) : EReal := a (ix3 k d (at_ 5631 0 n))
def argCw (k : Fin 2) (a : Vec Ideal S2x3x2816 .f32) (j : Fin 3) (f : ℕ) : EReal := a (ix3 k j (at_ 2815 0 f))
def argCb (k : Fin 2) (a : Vec Ideal S2x2816 .f32) (f : ℕ) : EReal := a (ix2 k (at_ 2815 0 f))
def argD (k : Fin 2) (a : Vec Ideal S2x2816x1024 .f32) (f : ℕ) (n : Fin 1024) : EReal := a (ix3 k (at_ 2815 0 f) n)

theorem at_zero {n : ℕ} (j : Fin (n + 1)) : (at_ n 0 j.val : Fin (n + 1)) = j :=
  Fin.ext ((at_val (by omega)).trans (Nat.zero_add _))

theorem at_add {n o j : ℕ} (h : o + j ≤ n) : (at_ n o j : Fin (n + 1)) = at_ n 0 (o + j) :=
  Fin.ext ((at_val h).trans ((at_val (by omega)).trans (Nat.zero_add _)).symm)

variable (m : (ℓ : Loc nD τ sig) → Buf (Elt Ideal) ℓ)

/-! ## What a point reads -/

/-- A window whose block never moves, at block zero, reads the array at the same index. -/
theorem iblk_x (c : Dev nD) (t : Fin cfg0.N) (r : Fin 512) (d : Fin 1024) :
    (iblk m c 0 t : Vec Ideal S512x1024 .f32) (ix2 r d) = argX (m ((c : Thread nD τ).loc main_arg0)) (512 * t.val + r.val) d := by
  have hN : cfg0.N = 32 := N_0
  have hi : win0_0.index t 0 = t.val ∧ win0_0.index t 1 = 0 := by
    constructor
    · revert t; decide
    · revert t; decide
  unfold iblk argX
  rw [View.read_apply]
  show V m c main_arg0 _ = _
  rw [V_main_arg0]
  refine congrArg (m ((c : Thread nD τ).loc main_arg0)) (funext fun a => Fin.ext ?_)
  fin_cases a
  · show win0_0.index t 0 * 512 + 1 * r.val = (at_ 16383 0 (512 * t.val + r.val)).val
    rw [hi.1, at_val (by have := t.isLt; omega)]; omega
  · show win0_0.index t 1 * 1024 + 1 * d.val = d.val
    rw [hi.2]; omega

theorem iblk_hist (c : Dev nD) (t : Fin cfg0.N) (i : Fin 16) (f : Fin 2816) :
    (iblk m c 1 t : Vec Ideal S16x2816 .f32) (ix2 i f) = argT (m ((c : Thread nD τ).loc main_arg1)) i.val f.val := by
  unfold iblk argT
  rw [View.read_apply, at_zero, at_zero]
  show V m c main_arg1 _ = _
  rw [V_main_arg1]
  refine congrArg (m ((c : Thread nD τ).loc main_arg1)) (funext fun a => Fin.ext ?_)
  fin_cases a
  · show 0 * 16 + 1 * i.val = i.val; omega
  · show 0 * 2816 + 1 * f.val = f.val; omega

theorem iblk_gain (c : Dev nD) (t : Fin cfg0.N) (d : Fin 1024) :
    (iblk m c 2 t : Vec Ideal S1x1x1024 .f32) (ix3 0 0 d) = argG 0 (m ((c : Thread nD τ).loc main_arg2)) d := by
  unfold iblk argG
  rw [View.read_apply]
  show V m c main_v33 _ = _
  rw [V_gain]
  refine congrArg (m ((c : Thread nD τ).loc main_arg2)) (funext fun a => Fin.ext ?_)
  fin_cases a
  · rfl
  · show 0 * 1024 + 1 * d.val = d.val; omega

theorem iblk_taps (c : Dev nD) (t : Fin cfg0.N) (k : Fin 3) (f : Fin 2816) :
    (iblk m c 3 t : Vec Ideal S1x3x2816 .f32) (ix3 0 k f) = argCw 0 (m ((c : Thread nD τ).loc main_arg4)) k f.val := by
  unfold iblk argCw
  rw [View.read_apply, at_zero]
  show V m c main_arg4 _ = _
  rw [V_main_arg4]
  refine congrArg (m ((c : Thread nD τ).loc main_arg4)) (funext fun a => Fin.ext ?_)
  fin_cases a
  · rfl
  · show 0 * 3 + 1 * k.val = k.val; omega
  · show 0 * 2816 + 1 * f.val = f.val; omega

theorem iblk_bias (c : Dev nD) (t : Fin cfg0.N) (f : Fin 2816) :
    (iblk m c 4 t : Vec Ideal S1x1x2816 .f32) (ix3 0 0 f) = argCb 0 (m ((c : Thread nD τ).loc main_arg5)) f.val := by
  unfold iblk argCb
  rw [View.read_apply, at_zero]
  show V m c main_v34 _ = _
  rw [V_bias]
  refine congrArg (m ((c : Thread nD τ).loc main_arg5)) (funext fun a => Fin.ext ?_)
  fin_cases a
  · rfl
  · show 0 * 2816 + 1 * f.val = f.val; omega

theorem iblk_up (c : Dev nD) (t : Fin cfg0.N) (d : Fin 1024) (n : Fin 5632) :
    (iblk m c 6 t : Vec Ideal S1024x5632 .bf16) (ix2 d n) = interleave (upMat (m ((c : Thread nD τ).loc main_arg3))) (ix2 d n) := by
  unfold iblk
  rw [View.read_apply]
  show V m c main_v27 _ = _
  rw [V_up]
  refine congrArg (interleave (upMat (m ((c : Thread nD τ).loc main_arg3)))) (funext fun a => Fin.ext ?_)
  fin_cases a
  · show 0 * 1024 + 1 * d.val = d.val; omega
  · show 0 * 5632 + 1 * n.val = n.val; omega

theorem iblk_down (c : Dev nD) (t : Fin cfg0.N) (f : Fin 2816) (n : Fin 1024) :
    (iblk m c 7 t : Vec Ideal S2816x1024 .bf16) (ix2 f n) = half * argD 0 (m ((c : Thread nD τ).loc main_arg6)) f.val n := by
  unfold iblk argD
  rw [View.read_apply, at_zero, ← downHalf_apply]
  show V m c main_v32 _ = _
  rw [V_down]
  refine congrArg (downHalf (m ((c : Thread nD τ).loc main_arg6))) (funext fun a => Fin.ext ?_)
  fin_cases a
  · show 0 * 2816 + 1 * f.val = f.val; omega
  · show 0 * 1024 + 1 * n.val = n.val; omega

/-- Tile `f`'s 512 interleaved columns are its gate columns and then its value columns. -/
theorem iblk_piece (c : Dev nD) (t : Fin cfg0.N) (d : Fin 1024) (f p j n : ℕ) (hf : f < 11) (hp : p < 2) (hj : j < 256) (hn : n < 5632)
    (e : n = 256 * (2 * f + p) + j) :
    (iblk m c 6 t : Vec Ideal S1024x5632 .bf16) (ix2 d ⟨n, hn⟩) = argW 0 (m ((c : Thread nD τ).loc main_arg3)) d (2816 * p + 256 * f + j) := by
  subst e
  rw [iblk_up, interleave_apply _ d (2 * f + p) j (by omega) hj]
  show upMat _ (ix2 d (at_ 5631 (2816 * ((2 * f + p) % 2) + 256 * ((2 * f + p) / 2)) j)) = _
  rw [upMat_apply, show (2 * f + p) % 2 = p by omega, show (2 * f + p) / 2 = f by omega, at_add (by omega)]
  rfl

theorem operands (c : Dev nD) (t : Fin cfg0.N) :
    Operands (argG 0 (m ((c : Thread nD τ).loc main_arg2))) (argW 0 (m ((c : Thread nD τ).loc main_arg3))) (argCw 0 (m ((c : Thread nD τ).loc main_arg4)))
      (argCb 0 (m ((c : Thread nD τ).loc main_arg5))) (argD 0 (m ((c : Thread nD τ).loc main_arg6)))
      (iblk m c 2 t) (iblk m c 3 t) (iblk m c 4 t) (iblk m c 6 t) (iblk m c 7 t) where
  gain := iblk_gain m c t
  taps := iblk_taps m c t
  bias := iblk_bias m c t
  gate d f j hf hj h := (iblk_piece m c t d f 0 j _ hf (by omega) hj h (by omega)).trans (congrArg _ (by omega))
  value d f j hf hj h := (iblk_piece m c t d f 1 j _ hf (by omega) hj h (by omega)).trans (congrArg _ (by omega))
  down := iblk_down m c t

/-! ## After every point -/

/-- Row `i` of the carried rows before global row `R`, and the layer's output, of the arguments in `m`. -/
def rowsIn (c : Dev nD) (i f : ℕ) : EReal :=
  ext (argX (m ((c : Thread nD τ).loc main_arg0))) (argG 0 (m ((c : Thread nD τ).loc main_arg2))) (argW 0 (m ((c : Thread nD τ).loc main_arg3)))
    (argT (m ((c : Thread nD τ).loc main_arg1))) i f
def rowsOut (c : Dev nD) (R : ℕ) (n : Fin 1024) : EReal :=
  out (argX (m ((c : Thread nD τ).loc main_arg0))) (argG 0 (m ((c : Thread nD τ).loc main_arg2))) (argW 0 (m ((c : Thread nD τ).loc main_arg3)))
    (argT (m ((c : Thread nD τ).loc main_arg1))) (argCw 0 (m ((c : Thread nD τ).loc main_arg4)))
      (argCb 0 (m ((c : Thread nD τ).loc main_arg5))) (argD 0 (m ((c : Thread nD τ).loc main_arg6))) R n

theorem block_at (c : Dev nD) (t : Fin cfg0.N) (xs : Vec Ideal S16x2816 .f32)
    (hs : ∀ (i : Fin 16) (f : Fin 2816), xs (ix2 i f) = rowsIn m c (512 * t.val + i.val) f.val) (r : Fin 512) (n : Fin 1024) :
    View.canon (blockOut (iblk m c 0 t) (iblk m c 2 t) (iblk m c 3 t) (iblk m c 4 t) (iblk m c 6 t) (iblk m c 7 t) xs) (ix2 r n)
      = rowsOut m c (512 * t.val + r.val) n :=
  blockOut_apply _ _ _ _ _ _ _ (operands m c t) (512 * t.val) (iblk_x m c t) hs r n

theorem carry_at (c : Dev nD) (t : Fin cfg0.N) (i : Fin 16) (f : Fin 2816) :
    carryOut (iblk m c 6 t) (hRows (iblk m c 0 t) (iblk m c 2 t) 256) (ix2 i f) = rowsIn m c (512 * (t.val + 1) + i.val) f.val :=
  (carryOut_apply _ _ _ (argT (m ((c : Thread nD τ).loc main_arg1))) _ _ _ (operands m c t) (512 * t.val) (iblk_x m c t) i f).trans
    (congrArg (fun R => rowsIn m c (R + i.val) f.val) (by omega))

/-! The first point reads the carried rows from the argument, a later one from what the point before it left. -/

theorem rows_A (c : Dev nD) (t : Fin cfg0.N) (h0 : t.val % 32 = 0) (h1 : ¬t.val % 32 = 31) :
    (outsAt0 m c t.val t.isLt).1 = View.canon (blockOut (iblk m c 0 t) (iblk m c 2 t) (iblk m c 3 t) (iblk m c 4 t) (iblk m c 6 t) (iblk m c 7 t) (iblk m c 1 t)) := by
  rw [outsAt0_A m c t h0 h1]
  dsimp only
  exact out_A ..

theorem carried_A (c : Dev nD) (t : Fin cfg0.N) (h0 : t.val % 32 = 0) (h1 : ¬t.val % 32 = 31) :
    (outsAt0 m c t.val t.isLt).2.2 = carryOut (iblk m c 6 t) (hRows (iblk m c 0 t) (iblk m c 2 t) 256) := by
  rw [outsAt0_A m c t h0 h1]
  dsimp only
  exact carry_A ..

theorem rows_B (c : Dev nD) (t : Fin cfg0.N) (h0 : ¬t.val % 32 = 0) (h1 : ¬t.val % 32 = 31) :
    (outsAt0 m c t.val t.isLt).1 = View.canon (blockOut (iblk m c 0 t) (iblk m c 2 t) (iblk m c 3 t) (iblk m c 4 t) (iblk m c 6 t) (iblk m c 7 t) (outsAt0 m c (t.val - 1) (Nat.lt_of_le_of_lt (Nat.sub_le _ _) t.isLt)).2.2) := by
  rw [outsAt0_B m c t h0 h1]
  dsimp only
  exact out_B ..

theorem carried_B (c : Dev nD) (t : Fin cfg0.N) (h0 : ¬t.val % 32 = 0) (h1 : ¬t.val % 32 = 31) :
    (outsAt0 m c t.val t.isLt).2.2 = carryOut (iblk m c 6 t) (hRows (iblk m c 0 t) (iblk m c 2 t) 256) := by
  rw [outsAt0_B m c t h0 h1]
  dsimp only
  exact carry_B ..

theorem rows_C (c : Dev nD) (t : Fin cfg0.N) (h0 : ¬t.val % 32 = 0) (h1 : t.val % 32 = 31) :
    (outsAt0 m c t.val t.isLt).1 = View.canon (blockOut (iblk m c 0 t) (iblk m c 2 t) (iblk m c 3 t) (iblk m c 4 t) (iblk m c 6 t) (iblk m c 7 t) (outsAt0 m c (t.val - 1) (Nat.lt_of_le_of_lt (Nat.sub_le _ _) t.isLt)).2.2) := by
  rw [outsAt0_C m c t h0 h1]
  dsimp only
  exact out_C ..

theorem carried_C (c : Dev nD) (t : Fin cfg0.N) (h0 : ¬t.val % 32 = 0) (h1 : t.val % 32 = 31) :
    (outsAt0 m c t.val t.isLt).2.2 = carryOut (iblk m c 6 t) (hRows (iblk m c 0 t) (iblk m c 2 t) 256) := by
  rw [outsAt0_C m c t h0 h1]
  dsimp only
  exact carry_C ..

theorem last_C (c : Dev nD) (t : Fin cfg0.N) (h0 : ¬t.val % 32 = 0) (h1 : t.val % 32 = 31) :
    (outsAt0 m c t.val t.isLt).2.1 = carryOut (iblk m c 6 t) (hRows (iblk m c 0 t) (iblk m c 2 t) 256) := by
  rw [outsAt0_C m c t h0 h1]
  dsimp only
  exact final_C ..

/-- The rows carried on by every point. -/
theorem carried_at (c : Dev nD) (t : Fin cfg0.N) (i : Fin 16) (f : Fin 2816) :
    (outsAt0 m c t.val t.isLt).2.2 (ix2 i f) = rowsIn m c (512 * (t.val + 1) + i.val) f.val := by
  have hN : t.val < 32 := lt_of_lt_of_eq t.isLt N_0
  rw [← carry_at m c t]
  by_cases h0 : t.val % 32 = 0
  · rw [carried_A m c t h0 (by omega)]
  · by_cases h1 : t.val % 32 = 31
    · rw [carried_C m c t h0 h1]
    · rw [carried_B m c t h0 h1]

/-- The rows a later point finds carried in. -/
theorem before_at (c : Dev nD) (t : Fin cfg0.N) (h0 : ¬t.val % 32 = 0) (h : t.val - 1 < cfg0.N) (i : Fin 16) (f : Fin 2816) :
    (outsAt0 m c (t.val - 1) h).2.2 (ix2 i f) = rowsIn m c (512 * t.val + i.val) f.val :=
  (carried_at m c ⟨t.val - 1, h⟩ i f).trans (congrArg (fun R => rowsIn m c (512 * R + i.val) f.val) (by show t.val - 1 + 1 = t.val; omega))

/-- The rows the first point finds carried in. -/
theorem first_at (c : Dev nD) (t : Fin cfg0.N) (h0 : t.val = 0) (i : Fin 16) (f : Fin 2816) :
    (iblk m c 1 t : Vec Ideal S16x2816 .f32) (ix2 i f) = rowsIn m c (512 * t.val + i.val) f.val := by
  rw [iblk_hist, h0, Nat.mul_zero, Nat.zero_add]
  unfold rowsIn ext
  rw [if_pos i.isLt]

/-- The rows output by every point. -/
theorem rows_at (c : Dev nD) (t : Fin cfg0.N) (r : Fin 512) (n : Fin 1024) :
    (outsAt0 m c t.val t.isLt).1 (ix2 r n) = rowsOut m c (512 * t.val + r.val) n := by
  have hN : t.val < 32 := lt_of_lt_of_eq t.isLt N_0
  by_cases h0 : t.val % 32 = 0
  · rw [rows_A m c t h0 (by omega)]
    exact block_at m c t _ (first_at m c t (by omega)) r n
  · by_cases h1 : t.val % 32 = 31
    · rw [rows_C m c t h0 h1]
      exact block_at m c t _ (before_at m c t h0 _) r n
    · rw [rows_B m c t h0 h1]
      exact block_at m c t _ (before_at m c t h0 _) r n

/-! ## The results -/

/-- The output array is the layer's rows. -/
theorem result_out (c : Dev nD) (R : Fin 16384) (n : Fin 1024) : (G8 m c : Vec Ideal S16384x1024 .f32) (ix2 R n) = rowsOut m c R.val n := by
  have hN : cfg0.N = 32 := N_0
  have hp : pt8Of (ix2 R n) = R.val / 512 := by
    show 1 * (R.val / 512 - 0) + 1 * (n.val / 1024 - 0) = _
    omega
  have h : pt8Of (ix2 R n) < cfg0.N := by rw [hp]; omega
  unfold G8
  rw [dif_pos h, ← outsAt0_sweep]
  have hl : loc8Of (ix2 R n) = ix2 (⟨R.val % 512, by omega⟩ : Fin 512) n := funext fun a => by
    fin_cases a
    · rfl
    · exact Fin.ext (by show n.val % 1024 = n.val; omega)
  rw [hl]
  refine (rows_at m c ⟨_, h⟩ _ n).trans ?_
  show rowsOut m c (512 * pt8Of (ix2 R n) + R.val % 512) n = _
  rw [hp]
  exact congrArg (fun R => rowsOut m c R n) (Nat.div_add_mod _ _)

/-- The other result is the last sixteen gate rows. -/
theorem result_rows (c : Dev nD) (i : Fin 16) (f : Fin 2816) : (G9 m c : Vec Ideal S16x2816 .f32) (ix2 i f) = rowsIn m c (16384 + i.val) f.val := by
  have hN : cfg0.N = 32 := N_0
  have h : 31 < cfg0.N := by omega
  rw [G9_last, ← outsAt0_sweep m c 31 h]
  refine (congrFun (last_C m c ⟨31, h⟩ (by show ¬31 % 32 = 0; omega) rfl) _).trans ?_
  exact carry_at m c ⟨31, h⟩ i f

end Cert.Ffn
-- ==== Proof.Ffn.Ref.lean ====
/- The layer as it is written plainly, at an index: rows of the batch-major array are step `l`, sequence `b`, row
   `8 * l + b`. -/
module

public import proofs.«01_k».proof.Proof.Gen.Reference2Ideal.Run
public import proofs.«01_k».proof.Proof.Ffn.Spec
public import proofs.«01_k».proof.Proof.Ffn.Carry
public import Idealize.ShloMosaic.Lib.Pointwise

@[expose] public section

set_option maxRecDepth 16384

noncomputable section

namespace Cert.FfnRef

open Cert.Reference2Ideal Cert.Reference2Ideal.Gen Cert.Reference2Ideal.Value Cert.Ffn Idealize.ShloMosaic Idealize.ShloMosaic.TcCoe Idealize.SL.Sem

section
variable (a0 : FVec Ideal S16384x1024 .f32) (a1 : FVec Ideal S16x2816 .f32) (gn : FVec Ideal S1024 .f32) (wu : FVec Ideal S1024x5632 .f32)
  (w0 w1 w2 cb : FVec Ideal S2816 .f32) (wd : FVec Ideal S2816x1024 .f32)

/-- The rows by step and sequence. -/
def steps : FVec Ideal S2048x8x1024 .f32 := shapeCast S2048x8x1024 a0 shapeCasts_S16384x1024_S2048x8x1024

/-- Rows, each over the root of its mean square, times a gain. -/
def normed (y : FVec Ideal S2048x8x1024 .f32) : FVec Ideal S2048x8x1024 .f32 :=
  mulf (mulf y (broadcastInDim S2048x8x1024 ![0, 1, 2] bcast_S2048x8x1_S2048x8x1024_0_1_2
      (Host.rsqrt (addf (Host.divf (broadcastInDim S2048x8x1 ![0, 1] bcast_S2048x8_S2048x8x1_0_1
        (Host.reduceAdd (mulf y y) (constant S_ .f32 0x00000000#32) reducesTo_S2048x8x1024_S2048x8_d2 h_S_))
        (broadcastInDim S2048x8x1 ![] bcast_S_S2048x8x1 (constant S_ .f32 0x44800000#32)))
        (broadcastInDim S2048x8x1 ![] bcast_S_S2048x8x1 (constant S_ .f32 0x358637BD#32))))))
    (broadcastInDim S2048x8x1024 ![0, 1, 2] bcast_S1x1x1024_S2048x8x1024_0_1_2 (broadcastInDim S1x1x1024 ![2] bcast_S1024_S1x1x1024_2
      gn))

/-- The up projection. -/
def upped : FVec Ideal S2048x8x5632 .f32 :=
  Host.dotGeneral dot_S2048x8x1024_S1024x5632_S2048x8x5632_2_0_01_1_n_n none (normed gn (steps a0)) wu

/-- The gate's steps, the two carried in before them. -/
def exted : FVec Ideal S2050x8x2816 .f32 :=
  concatenate S2050x8x2816 0 [⟨S2x8x2816, (shapeCast S2x8x2816 a1 shapeCasts_S16x2816_S2x8x2816 : FVec Ideal S2x8x2816 .f32)⟩,
    ⟨S2048x8x2816, (extractStridedSlice S2048x8x2816 ![0, 0, 0] (upped a0 gn wu) slices_S2048x8x5632_S2048x8x2816_0_0_0 : FVec Ideal S2048x8x2816 .f32)⟩]
    concatenates_S2x8x2816_S2048x8x2816_S2050x8x2816_d0

/-- The convolution over steps. -/
def conved : FVec Ideal S2048x8x2816 .f32 :=
  addf (addf (addf (broadcastInDim S2048x8x2816 ![0, 1, 2] bcast_S1x1x2816_S2048x8x2816_0_1_2 (broadcastInDim S1x1x2816 ![2] bcast_S2816_S1x1x2816_2 cb))
    (mulf (broadcastInDim S2048x8x2816 ![0, 1, 2] bcast_S1x1x2816_S2048x8x2816_0_1_2 (broadcastInDim S1x1x2816 ![2] bcast_S2816_S1x1x2816_2 w0))
      (extractStridedSlice S2048x8x2816 ![0, 0, 0] (exted a0 a1 gn wu) slices_S2050x8x2816_S2048x8x2816_0_0_0)))
    (mulf (broadcastInDim S2048x8x2816 ![0, 1, 2] bcast_S1x1x2816_S2048x8x2816_0_1_2 (broadcastInDim S1x1x2816 ![2] bcast_S2816_S1x1x2816_2 w1))
      (extractStridedSlice S2048x8x2816 ![1, 0, 0] (exted a0 a1 gn wu) slices_S2050x8x2816_S2048x8x2816_1_0_0)))
    (mulf (broadcastInDim S2048x8x2816 ![0, 1, 2] bcast_S1x1x2816_S2048x8x2816_0_1_2 (broadcastInDim S1x1x2816 ![2] bcast_S2816_S1x1x2816_2 w2))
      (extractStridedSlice S2048x8x2816 ![2, 0, 0] (exted a0 a1 gn wu) slices_S2050x8x2816_S2048x8x2816_2_0_0))

/-- The gated activation of a convolved gate and its value. -/
def gated (c v : FVec Ideal S2048x8x2816 .f32) : FVec Ideal S2048x8x2816 .f32 :=
  mulf (mulf c (mulf (broadcastInDim S2048x8x2816 ![] bcast_S_S2048x8x2816 (constant S_ .f32 0x3F000000#32))
    (addf (broadcastInDim S2048x8x2816 ![] bcast_S_S2048x8x2816 (constant S_ .f32 0x3F800000#32))
      (Host.tanh (mulf (broadcastInDim S2048x8x2816 ![] bcast_S_S2048x8x2816 (constant S_ .f32 0x3F4C422A#32))
        (addf c (mulf (broadcastInDim S2048x8x2816 ![] bcast_S_S2048x8x2816 (constant S_ .f32 0x3D372713#32)) (mulf (mulf c c) c)))))))) v

/-- The layer's output, by step and sequence. -/
def outed (g : FVec Ideal S2048x8x2816 .f32) : FVec Ideal S2048x8x1024 .f32 :=
  addf (steps a0) (Host.dotGeneral dot_S2048x8x2816_S2816x1024_S2048x8x1024_2_0_01_1_n_n none g wd)

/-- Rows by step and sequence, one after another. -/
def flat (y : FVec Ideal S2048x8x1024 .f32) : FVec Ideal S16384x1024 .f32 := shapeCast S16384x1024 y shapeCasts_S2048x8x1024_S16384x1024

/-- The rows carried on: the last two steps of the gate. -/
def lasted : FVec Ideal S16x2816 .f32 :=
  shapeCast S16x2816 (extractStridedSlice S2x8x2816 ![2048, 0, 0] (exted a0 a1 gn wu) slices_S2050x8x2816_S2x8x2816_2048_0_0) shapeCasts_S2x8x2816_S16x2816

/-- The layer's output in these steps. -/
def layer : FVec Ideal S2048x8x1024 .f32 :=
  outed a0 wd (gated (conved a0 a1 gn wu w0 w1 w2 cb) (extractStridedSlice S2048x8x2816 ![0, 0, 2816] (upped a0 gn wu) slices_S2048x8x5632_S2048x8x2816_0_0_2816))

/-! ## Each step at an index -/

theorem steps_apply (l : Fin 2048) (b : Fin 8) (d : Fin 1024) : steps a0 (ix3 l b d) = argX a0 (8 * l.val + b.val) d := by
  pointwise [steps]
  have := l.isLt
  have := b.isLt
  exact congrArg (fun R => a0 (ix2 R d)) (Fin.ext (by show l.val * 8 + b.val = _; rw [at_val (by omega)]; omega))

theorem flat_apply (y : FVec Ideal S2048x8x1024 .f32) (R : Fin 16384) (n : Fin 1024) :
    flat y (ix2 R n) = y (ix3 ⟨R.val / 8, by omega⟩ ⟨R.val % 8, by omega⟩ n) := by
  pointwise [flat]

theorem gated_apply (c v : FVec Ideal S2048x8x2816 .f32) (l : Fin 2048) (b : Fin 8) (f : Fin 2816) :
    gated c v (ix3 l b f) = actR (c (ix3 l b f)) (v (ix3 l b f)) := by
  unfold actR half rootC cubeC
  pointwise [gated]

theorem outed_apply (g : FVec Ideal S2048x8x2816 .f32) (l : Fin 2048) (b : Fin 8) (n : Fin 1024) :
    outed a0 wd g (ix3 l b n) = steps a0 (ix3 l b n) + ∑ f : Fin 2816, g (ix3 l b f) * wd (ix2 f n) := by
  pointwise [outed]

theorem values_apply (u : FVec Ideal S2048x8x5632 .f32) (l : Fin 2048) (b : Fin 8) (f : Fin 2816) :
    extractStridedSlice S2048x8x2816 ![0, 0, 2816] u slices_S2048x8x5632_S2048x8x2816_0_0_2816 (ix3 l b f) = u (ix3 l b ⟨2816 + f.val, by omega⟩) := by
  pointwise []

section
variable (G : Fin 1024 → EReal) (hg : ∀ d, gn (ix1 d) = G d)

include hg in
theorem normed_apply (y : FVec Ideal S2048x8x1024 .f32) (X : ℕ → Fin 1024 → EReal) (hy : ∀ l b d, y (ix3 l b d) = X (8 * l.val + b.val) d)
    (l : Fin 2048) (b : Fin 8) (d : Fin 1024) : normed gn y (ix3 l b d) = nrm X G (8 * l.val + b.val) d := by
  unfold nrm
  simp only [← hy, ← hg]
  pointwise [normed]

variable (W : Fin 1024 → ℕ → EReal) (hw : ∀ d (n : Fin 5632), wu (ix2 d n) = W d n.val)

include hg hw

theorem upped_apply (l : Fin 2048) (b : Fin 8) (n : Fin 5632) :
    upped a0 gn wu (ix3 l b n) = up (argX a0) G W (8 * l.val + b.val) n.val := by
  unfold up
  simp only [← normed_apply gn G hg (steps a0) (argX a0) (steps_apply a0) l b, ← hw]
  pointwise [upped]

theorem exted_apply (l : Fin 2050) (b : Fin 8) (f : Fin 2816) :
    exted a0 a1 gn wu (ix3 l b f) = ext (argX a0) G W (argT a1) (8 * l.val + b.val) f.val := by
  unfold ext
  pointwise [exted]
  have hb := b.isLt
  have hl := l.isLt
  by_cases h : l.val < 2
  · rw [dif_pos h, if_pos (by omega)]
    exact congrArg₂ (fun i j => a1 (ix2 i j)) (Fin.ext (by show l.val * 8 + b.val = _; rw [at_val (by omega)]; omega)) (at_zero f).symm
  · refine (dif_neg h).trans (Eq.trans ?_ (if_neg (by omega : ¬ 8 * l.val + b.val < 16)).symm)
    exact (upped_apply a0 gn wu G hg W hw ⟨l.val - 2, by omega⟩ b ⟨f.val, by have := f.isLt; omega⟩).trans
      (congrArg (fun R => up (argX a0) G W R f.val) (by show 8 * (l.val - 2) + b.val = _; omega))

/-- The carried rows are the rows of the gate from row 16384 on. -/
theorem lasted_apply (i : Fin 16) (f : Fin 2816) :
    lasted a0 a1 gn wu (ix2 i f) = ext (argX a0) G W (argT a1) (16384 + i.val) f.val := by
  pointwise [lasted]
  rw [exted_apply a0 a1 gn wu G hg W hw]
  exact congrArg (fun R => ext (argX a0) G W (argT a1) R f.val) (by show 8 * (2048 + i.val / 8) + i.val % 8 = _; omega)

variable (cw : Fin 3 → ℕ → EReal) (cbs : ℕ → EReal) (h0 : ∀ f : Fin 2816, w0 (ix1 f) = cw 0 f.val) (h1 : ∀ f : Fin 2816, w1 (ix1 f) = cw 1 f.val)
  (h2 : ∀ f : Fin 2816, w2 (ix1 f) = cw 2 f.val) (hb : ∀ f : Fin 2816, cb (ix1 f) = cbs f.val)

include h0 h1 h2 hb

theorem conved_apply (l : Fin 2048) (b : Fin 8) (f : Fin 2816) :
    conved a0 a1 gn wu w0 w1 w2 cb (ix3 l b f) = cnv (argX a0) G W (argT a1) cw cbs (8 * l.val + b.val) f.val := by
  unfold cnv
  rw [← h0, ← h1, ← h2, ← hb]
  pointwise [conved]
  rw [exted_apply a0 a1 gn wu G hg W hw, exted_apply a0 a1 gn wu G hg W hw, exted_apply a0 a1 gn wu G hg W hw]
  rw [show 8 * l.val + b.val + 8 = 8 * (1 + l.val) + b.val by omega, show 8 * l.val + b.val + 16 = 8 * (2 + l.val) + b.val by omega]

/-- The layer's output at a step and a sequence. -/
theorem layer_apply (D : ℕ → Fin 1024 → EReal) (hd : ∀ (f : Fin 2816) n, wd (ix2 f n) = D f.val n) (l : Fin 2048) (b : Fin 8) (n : Fin 1024) :
    layer a0 a1 gn wu w0 w1 w2 cb wd (ix3 l b n) = out (argX a0) G W (argT a1) cw cbs D (8 * l.val + b.val) n := by
  unfold layer out
  rw [outed_apply, steps_apply, Finset.sum_range]
  refine congrArg _ (Finset.sum_congr rfl fun f _ => ?_)
  rw [gated_apply, conved_apply a0 a1 gn wu w0 w1 w2 cb G hg W hw cw cbs h0 h1 h2 hb, values_apply, upped_apply a0 gn wu G hg W hw, hd]

end

end

/-! ## The weights of the first layer -/

section
variable (a2 : FVec Ideal S2x1024 .f32) (a3 : FVec Ideal S2x1024x5632 .f32) (a4 : FVec Ideal S2x3x2816 .f32) (a5 : FVec Ideal S2x2816 .f32)
  (a6 : FVec Ideal S2x2816x1024 .f32)

def gain : FVec Ideal S1024 .f32 := shapeCast S1024 (extractStridedSlice S1x1024 ![0, 0] a2 slices_S2x1024_S1x1024_0_0) shapeCasts_S1x1024_S1024
def upW : FVec Ideal S1024x5632 .f32 :=
  shapeCast S1024x5632 (extractStridedSlice S1x1024x5632 ![0, 0, 0] a3 slices_S2x1024x5632_S1x1024x5632_0_0_0) shapeCasts_S1x1024x5632_S1024x5632
def tap0 : FVec Ideal S2816 .f32 := shapeCast S2816 (extractStridedSlice S1x1x2816 ![0, 0, 0] a4 slices_S2x3x2816_S1x1x2816_0_0_0) shapeCasts_S1x1x2816_S2816
def tap1 : FVec Ideal S2816 .f32 := shapeCast S2816 (extractStridedSlice S1x1x2816 ![0, 1, 0] a4 slices_S2x3x2816_S1x1x2816_0_1_0) shapeCasts_S1x1x2816_S2816
def tap2 : FVec Ideal S2816 .f32 := shapeCast S2816 (extractStridedSlice S1x1x2816 ![0, 2, 0] a4 slices_S2x3x2816_S1x1x2816_0_2_0) shapeCasts_S1x1x2816_S2816
def biasOf : FVec Ideal S2816 .f32 := shapeCast S2816 (extractStridedSlice S1x2816 ![0, 0] a5 slices_S2x2816_S1x2816_0_0) shapeCasts_S1x2816_S2816
def downW : FVec Ideal S2816x1024 .f32 :=
  shapeCast S2816x1024 (extractStridedSlice S1x2816x1024 ![0, 0, 0] a6 slices_S2x2816x1024_S1x2816x1024_0_0_0) shapeCasts_S1x2816x1024_S2816x1024

theorem gain_apply (d : Fin 1024) : gain a2 (ix1 d) = argG 0 a2 d := by
  unfold argG
  pointwise [gain]
theorem upW_apply (d : Fin 1024) (n : Fin 5632) : upW a3 (ix2 d n) = argW 0 a3 d n.val := by
  unfold argW
  rw [at_zero]
  pointwise [upW]
theorem tap0_apply (f : Fin 2816) : tap0 a4 (ix1 f) = argCw 0 a4 0 f.val := by
  unfold argCw
  rw [at_zero]
  pointwise [tap0]
theorem tap1_apply (f : Fin 2816) : tap1 a4 (ix1 f) = argCw 0 a4 1 f.val := by
  unfold argCw
  rw [at_zero]
  pointwise [tap1]
theorem tap2_apply (f : Fin 2816) : tap2 a4 (ix1 f) = argCw 0 a4 2 f.val := by
  unfold argCw
  rw [at_zero]
  pointwise [tap2]
theorem biasOf_apply (f : Fin 2816) : biasOf a5 (ix1 f) = argCb 0 a5 f.val := by
  unfold argCb
  rw [at_zero]
  pointwise [biasOf]
theorem downW_apply (f : Fin 2816) (n : Fin 1024) : downW a6 (ix2 f n) = argD 0 a6 f.val n := by
  unfold argD
  rw [at_zero]
  pointwise [downW]

variable (a0 : FVec Ideal S16384x1024 .f32) (a1 : FVec Ideal S16x2816 .f32)

/-- The reference's two results. -/
def refOut : FVec Ideal S16384x1024 .f32 := flat (layer a0 a1 (gain a2) (upW a3) (tap0 a4) (tap1 a4) (tap2 a4) (biasOf a5) (downW a6))
@[inherit_doc refOut]
def refRows : FVec Ideal S16x2816 .f32 := lasted a0 a1 (gain a2) (upW a3)

theorem refOut_apply (R : Fin 16384) (n : Fin 1024) : refOut a2 a3 a4 a5 a6 a0 a1 (ix2 R n)
    = out (argX a0) (argG 0 a2) (argW 0 a3) (argT a1) (argCw 0 a4) (argCb 0 a5) (argD 0 a6) R.val n := by
  unfold refOut
  rw [flat_apply, layer_apply a0 a1 _ _ _ _ _ _ _ _ (gain_apply a2) _ (upW_apply a3) _ _ (tap0_apply a4) (tap1_apply a4) (tap2_apply a4) (biasOf_apply a5) _ (downW_apply a6)]
  exact congrArg (fun R => out _ _ _ _ _ _ _ R n) (Nat.div_add_mod _ _)

theorem refRows_apply (i : Fin 16) (f : Fin 2816) : refRows a2 a3 a0 a1 (ix2 i f)
    = ext (argX a0) (argG 0 a2) (argW 0 a3) (argT a1) (16384 + i.val) f.val :=
  lasted_apply a0 a1 _ _ _ (gain_apply a2) _ (upW_apply a3) i f

end

variable (m : (ℓ : Loc nD τ sig) → Buf (Elt Ideal) ℓ) (c : Dev nD)

theorem res_eq :
    res_main_v66 m c = refOut (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg0)) (m ((c : Thread nD τ).loc main_arg1)) := by
  unfold res_main_v66
  rfl

/-- What the reference leaves in its two results. -/
theorem run_steps (ρ : Dev nD → PrngReg) :
    θ_run (defs (F := Ideal)) (onTc (τ := τ) (main (F := Ideal))) ⟨m, fun _ => 0, ρ⟩ fun r => ∀ c : Dev nD,
      r.2.mem ((c.tc : Thread nD τ).loc main_v66) = refOut (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg0)) (m ((c : Thread nD τ).loc main_arg1))
      ∧ r.2.mem ((c.tc : Thread nD τ).loc main_v68) = refRows (m ((c : Thread nD τ).loc main_arg2)) (m ((c : Thread nD τ).loc main_arg3))
      (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (res_eq m c), (h c).2.1, (h c).2.2⟩) (run m ρ)

end Cert.FfnRef
-- ==== Proof.Ffn.Equal.lean ====
/- The kernel and the reference end with the same two results. -/
module

public import proofs.«01_k».proof.Defs
public import proofs.«01_k».proof.Proof.Ffn.Ref

@[expose] public section

set_option maxRecDepth 16384

noncomputable section

namespace Cert.Ffn

open Idealize.ShloMosaic Idealize.ShloMosaic.TcCoe Idealize.SL.Sem

/-- The reference's two results, from the kernel's memory. -/
def result0 (m : (ℓ : Loc Kernel2Ideal.nD Kernel2Ideal.τ Kernel2Ideal.sig) → Buf (Elt Ideal) ℓ) (c : Dev Kernel2Ideal.nD) :
    FVec Ideal Kernel2Ideal.S16384x1024 .f32 :=
  FfnRef.refOut (m ((c : Thread Kernel2Ideal.nD Kernel2Ideal.τ).loc Kernel2Ideal.main_arg2)) (m ((c : Thread Kernel2Ideal.nD Kernel2Ideal.τ).loc Kernel2Ideal.main_arg3))
    (m ((c : Thread Kernel2Ideal.nD Kernel2Ideal.τ).loc Kernel2Ideal.main_arg4)) (m ((c : Thread Kernel2Ideal.nD Kernel2Ideal.τ).loc Kernel2Ideal.main_arg5))
    (m ((c : Thread Kernel2Ideal.nD Kernel2Ideal.τ).loc Kernel2Ideal.main_arg6)) (m ((c : Thread Kernel2Ideal.nD Kernel2Ideal.τ).loc Kernel2Ideal.main_arg0)) (m ((c : Thread Kernel2Ideal.nD Kernel2Ideal.τ).loc Kernel2Ideal.main_arg1))

@[inherit_doc result0]
def result1 (m : (ℓ : Loc Kernel2Ideal.nD Kernel2Ideal.τ Kernel2Ideal.sig) → Buf (Elt Ideal) ℓ) (c : Dev Kernel2Ideal.nD) :
    FVec Ideal Kernel2Ideal.S16x2816 .f32 :=
  FfnRef.refRows (m ((c : Thread Kernel2Ideal.nD Kernel2Ideal.τ).loc Kernel2Ideal.main_arg2)) (m ((c : Thread Kernel2Ideal.nD Kernel2Ideal.τ).loc Kernel2Ideal.main_arg3))
    (m ((c : Thread Kernel2Ideal.nD Kernel2Ideal.τ).loc Kernel2Ideal.main_arg0)) (m ((c : Thread Kernel2Ideal.nD Kernel2Ideal.τ).loc Kernel2Ideal.main_arg1))

theorem out_eq (m : (ℓ : Loc Kernel2Ideal.nD Kernel2Ideal.τ Kernel2Ideal.sig) → Buf (Elt Ideal) ℓ) (c : Dev Kernel2Ideal.nD) :
    Kernel2Ideal.Value.G8 m c = result0 m c := by
  refine funext fun j => ?_
  rw [show j = ix2 (j 0) (j 1) by funext a; fin_cases a <;> rfl]
  exact (result_out m c (j 0) (j 1)).trans (FfnRef.refOut_apply _ _ _ _ _ _ _ _ _).symm

theorem rows_eq (m : (ℓ : Loc Kernel2Ideal.nD Kernel2Ideal.τ Kernel2Ideal.sig) → Buf (Elt Ideal) ℓ) (c : Dev Kernel2Ideal.nD) :
    Kernel2Ideal.Value.G9 m c = result1 m c := by
  refine funext fun j => ?_
  rw [show j = ix2 (j 0) (j 1) by funext a; fin_cases a <;> rfl]
  exact (result_rows m c (j 0) (j 1)).trans (FfnRef.refRows_apply _ _ _ _ _ _).symm

theorem algebraic : Cert.algebraic_Kernel2Ideal_Reference2Ideal (hKernel2Ideal := Cert.Kernel2Ideal.Gen.facts) (hReference2Ideal := Cert.Reference2Ideal.Gen.facts) := by
  intro m g m' g' _ hm
  refine ⟨result0 m, result1 m, (θ_run _ _ _).mono (fun _ h c => ?_) (Kernel2Ideal.Value.run m g),
    (θ_run _ _ _).mono (fun _ h c => ?_) (FfnRef.run_steps m' g')⟩
  · exact ⟨(h c).1.trans (out_eq m c), (h c).2.1.trans (rows_eq m c), (h c).2.2⟩
  · obtain ⟨e0, e1, e2, e3, e4, e5, e6⟩ := hm c
    refine ⟨(h c).1.trans ?_, (h c).2.1.trans ?_, (h c).2.2⟩
    · unfold result0; rw [e0, e1, e2, e3, e4, e5, e6]
    · unfold result1; rw [e0, e1, e2, e3]

end Cert.Ffn
-- ==== Proof.Final.Block.lean ====
/- What one grid point of the last layer's block computes: the same tiles as the first layer's, and over each sub-block's rows the
   final normalisation. -/
module

public import proofs.«01_k».proof.Proof.Ffn.Closed
public import proofs.«01_k».proof.Proof.Gen.Kernel4Ideal.Frame

@[expose] public section

set_option maxRecDepth 16384

noncomputable section

namespace Cert.Final

open Cert.Ffn Cert.Kernel4Ideal Cert.Kernel4Ideal.Gen Idealize.ShloMosaic Idealize.ShloMosaic.TcCoe Idealize.SL.Sem

/-! The last layer's operations, folded into the names that the first layer's block has for them. -/

theorem last_gvTile (h : FVec Ideal S256x1024 .bf16) (w : FVec Ideal S1024x512 .bf16) :
    (matmul dot_S256x1024_S1024x512_S256x512_1_0_0_1_n_n none h w (constant S256x512 .f32 0x00000000#32) : FVec Ideal S256x512 .f32) = gvTile h w := rfl

theorem last_actTile (c v : FVec Ideal S256x256 .f32) :
    (truncf .bf16 (mulf (mulf c v) (addf (broadcast S256x256 (FloatOps.ofBits .f32 0x3F800000#32)) (tanh (mulf c
    (addf (broadcast S256x256 (FloatOps.ofBits .f32 0x3F4C422A#32))
      (mulf (broadcast S256x256 (Named.named κ "gelu_root_cube" 0x3D122279#32)) (mulf c c))))))) bitsLt_bf16_f32 : FVec Ideal S256x256 .bf16) = actTile c v := rfl

theorem last_downTile (a : FVec Ideal S256x256 .bf16) (w : FVec Ideal S256x1024 .bf16) :
    (matmul dot_S256x256_S256x1024_S256x1024_1_0_0_1_n_n none a w (constant S256x1024 .f32 0x00000000#32) : FVec Ideal S256x1024 .f32) = downTile a w := rfl

theorem rd_last' {m : Memref sig .tc .vmem S1x1024 .f32} (hm : m.IsWhole) (x : Vec Ideal S1x1024 .f32) (inb) :
    View.readAt (Elt Ideal) m.view (Rect.unit (s := S1x1024) ![0, 0] ![1, 1024] inb).toLoadRect (hm.unread x) = x := rd_last m hm x inb

/-- The final normalisation of a sub-block: each row over the root of its mean square, times the final gain. -/
def finNorm (x : FVec Ideal S256x1024 .f32) (g : Vec Ideal S1x1024 .f32) : FVec Ideal S256x1024 .f32 :=
  mulf (mulf x (broadcastTo S256x1024 (rsqrt (addf (divf (shapeCast S256x1
    (multiReduction .add [1] S256 (mulf x x) 0x00000000#32 reduces_S256x1024_S256 (.inl rfl) rfl) shapeCasts_S256_S256x1)
    (broadcast S256x1 (FloatOps.ofBits .f32 0x44800000#32))) (broadcast S256x1 (FloatOps.ofBits .f32 0x358637BD#32)))) broadcasts_S256x1_S256x1024))
    (broadcastTo S256x1024 g broadcasts_S1x1024_S256x1024)

theorem last_finNorm (x : FVec Ideal S256x1024 .f32) (g : Vec Ideal S1x1024 .f32) :
    (mulf (mulf x (broadcastTo S256x1024 (rsqrt (addf (divf (shapeCast S256x1
    (multiReduction .add [1] S256 (mulf x x) 0x00000000#32 reduces_S256x1024_S256 (.inl rfl) rfl) shapeCasts_S256_S256x1)
    (broadcast S256x1 (FloatOps.ofBits .f32 0x44800000#32))) (broadcast S256x1 (FloatOps.ofBits .f32 0x358637BD#32)))) broadcasts_S256x1_S256x1024))
    (broadcastTo S256x1024 g broadcasts_S1x1024_S256x1024) : FVec Ideal S256x1024 .f32) = finNorm x g := rfl

theorem last_hNorm (x : FVec Ideal S256x1024 .f32) (g : Vec Ideal S1x1x1024 .f32) :
    (truncf .bf16 (finNorm x (shapeCast S1x1024 g shapeCasts_S1x1x1024_S1x1024)) bitsLt_bf16_f32 : FVec Ideal S256x1024 .bf16) = hNorm x g := rfl

theorem finNorm_apply (x : FVec Ideal S256x1024 .f32) (g : Vec Ideal S1x1024 .f32) (r : Fin 256) (d : Fin 1024) :
    finNorm x g (ix2 r d) = x (ix2 r d) * Ideal.rsqrt (Ideal.div (∑ k, x (ix2 r k) * x (ix2 r k)) (Ideal.ofBits .f32 0x44800000#32)
      + Ideal.ofBits .f32 0x358637BD#32) * g (ix2 0 d) := by
  pointwise [finNorm]

/-- What one point leaves in its rows of the output, over the carried rows `xs`. -/
def normOut (x0 : Vec Ideal S512x1024 .f32) (x2 : Vec Ideal S1x1x1024 .f32) (x3 : Vec Ideal S1x3x2816 .f32) (x4 : Vec Ideal S1x1x2816 .f32)
    (x5 : Vec Ideal S1x1024 .f32) (x6 : Vec Ideal S1024x5632 .bf16) (x7 : Vec Ideal S2816x1024 .bf16) (xs : Vec Ideal S16x2816 .f32) :
    List (View.Piece (Elt Ideal) S512x1024 .f32) :=
  [⟨Rect.unit (s := S512x1024) ![256, 0] S256x1024.size inb_S512x1024_S256x1024_256_0,
      finNorm (addf (xRows x0 256) (tiles x3 x4 x6 x7 (hRows x0 x2 256) (fun f => lastRows (gv x6 (hRows x0 x2 0) f)) 10)) x5⟩,
    ⟨Rect.unit (s := S512x1024) ![0, 0] S256x1024.size inb_S512x1024_S256x1024_0_0,
      finNorm (addf (xRows x0 0) (tiles x3 x4 x6 x7 (hRows x0 x2 0) (fun f => topCols xs (256 * f)) 10)) x5⟩]

/-- Those rows are the final normalisation of the rows that the first layer's block would leave. -/
theorem normOut_apply (x0 : Vec Ideal S512x1024 .f32) (x2 : Vec Ideal S1x1x1024 .f32) (x3 : Vec Ideal S1x3x2816 .f32) (x4 : Vec Ideal S1x1x2816 .f32)
    (x5 : Vec Ideal S1x1024 .f32) (x6 : Vec Ideal S1024x5632 .bf16) (x7 : Vec Ideal S2816x1024 .bf16) (xs : Vec Ideal S16x2816 .f32)
    (Y : ℕ → Fin 1024 → EReal) (g : Fin 1024 → EReal) (R : ℕ) (r : Fin 512)
    (hY : ∀ n, View.canon (blockOut x0 x2 x3 x4 x6 x7 xs) (ix2 r n) = Y R n) (hg : ∀ n, x5 (ix2 0 n) = g n) (n : Fin 1024) :
    View.canon (normOut x0 x2 x3 x4 x5 x6 x7 xs) (ix2 r n) = nrm Y g R n := by
  have e := fun k => (hY k).symm.trans (two_halves _ _ _ _ r k)
  refine (two_halves _ _ _ _ r n).trans ?_
  unfold nrm
  simp only [e, ← hg]
  by_cases hr : 256 ≤ r.val
  · simp only [dif_pos hr]
    exact finNorm_apply _ _ _ _
  · simp only [dif_neg hr]
    exact finNorm_apply _ _ _ _

end Cert.Final
-- ==== Proof.Final.Host.lean ====
/- What the host prepares for the last layer's launch, at an index. -/
module

public import proofs.«01_k».proof.Proof.Ffn.Host
public import proofs.«01_k».proof.Proof.Final.Block

@[expose] public section

set_option maxRecDepth 16384

noncomputable section

namespace Cert.Final

open Cert.Ffn Cert.Kernel4Ideal Cert.Kernel4Ideal.Gen Idealize.ShloMosaic Idealize.ShloMosaic.TcCoe Idealize.SL.Sem

variable (m : (ℓ : Loc nD τ sig) → Buf (Elt Ideal) ℓ)

/-- The gain's array, a unit axis put in. -/
theorem V_gain (c : Dev nD) : V m c main_v33 = (broadcastInDim S2x1x1024 ![0, 2] bcast_S2x1024_S2x1x1024_0_2 (m ((c : Thread nD τ).loc main_arg2) : Vec Ideal S2x1024 .f32)) := by
  show StableHlo.after hostOps0 (fun b => m (c, b)) (Proc.devRef .tc main_v33) = _
  after_results_simp

/-- The bias's array, a unit axis put in. -/
theorem V_bias (c : Dev nD) : V m c main_v34 = (broadcastInDim S2x1x2816 ![0, 2] bcast_S2x2816_S2x1x2816_0_2 (m ((c : Thread nD τ).loc main_arg5) : Vec Ideal S2x2816 .f32)) := by
  show StableHlo.after hostOps0 (fun b => m (c, b)) (Proc.devRef .tc main_v34) = _
  after_results_simp

/-- The final gain, as one row. -/
theorem V_final (c : Dev nD) : V m c main_v35 = (broadcastInDim S1x1024 ![1] bcast_S1024_S1x1024_1 (m ((c : Thread nD τ).loc main_arg7) : Vec Ideal S1024 .f32)) := by
  show StableHlo.after hostOps0 (fun b => m (c, b)) (Proc.devRef .tc main_v35) = _
  after_results_simp

/-- The layer's down projection, halved. -/
def downHalf1 (A : FVec Ideal S2x2816x1024 .f32) : FVec Ideal S2816x1024 .bf16 :=
  truncf .bf16 (mulf (broadcastInDim S2816x1024 ![] bcast_S_S2816x1024 (constant S_ FTy.f32 0x3F000000#32))
    (shapeCast S2816x1024 (extractStridedSlice S1x2816x1024 ![1, 0, 0] A slices_S2x2816x1024_S1x2816x1024_1_0_0) shapeCasts_S1x2816x1024_S2816x1024 : FVec Ideal S2816x1024 .f32)) bitsLt_bf16_f32

theorem downHalf1_apply (A : Vec Ideal S2x2816x1024 .f32) (f : Fin 2816) (n : Fin 1024) : downHalf1 A (ix2 f n) = half * A (ix3 1 f n) := by
  unfold half
  pointwise [downHalf1]

theorem V_down (c : Dev nD) : V m c main_v32 = downHalf1 (m ((c : Thread nD τ).loc main_arg6)) := by
  show StableHlo.after hostOps0 (fun b => m (c, b)) (Proc.devRef .tc main_v32) = _
  after_results_simp
  rfl

/-- The layer's up projection. -/
def upMat1 (A : Vec Ideal S2x1024x5632 .f32) : Vec Ideal S1024x5632 .f32 :=
  shapeCast S1024x5632 (extractStridedSlice S1x1024x5632 ![1, 0, 0] A slices_S2x1024x5632_S1x1024x5632_1_0_0) shapeCasts_S1x1024x5632_S1024x5632

theorem upMat1_apply (A : Vec Ideal S2x1024x5632 .f32) (d : Fin 1024) (n : Fin 5632) : upMat1 A (ix2 d n) = A (ix3 1 d n) := by
  pointwise [upMat1]

theorem V_up (c : Dev nD) : V m c main_v27 = (truncf .bf16 (interleave (upMat1 (m ((c : Thread nD τ).loc main_arg3))) : FVec Ideal S1024x5632 .f32) bitsLt_bf16_f32 : FVec Ideal S1024x5632 .bf16) := by
  show StableHlo.after hostOps0 (fun b => m (c, b)) (Proc.devRef .tc main_v27) = _
  after_results
  refine congrArg (fun x => truncf .bf16 (x : FVec Ideal S1024x5632 .f32) bitsLt_bf16_f32)
    (congrArg₂ (fun x y => (concatenate S1024x5632 1 [⟨S1024x4096, x⟩, ⟨S1024x1536, y⟩] concatenates_S1024x4096_S1024x1536_S1024x5632_d1 : Vec Ideal S1024x5632 .f32))
      (wide_eq _ ?_ ?_ ?_ ?_ ?_ ?_ ?_ ?_ ?_ ?_ ?_ ?_ ?_ ?_ ?_ ?_ ) (rest_eq _ ?_ ?_ ?_ ?_ ?_ ?_ ))
  all_goals
    refine Eq.trans ?_ (slice_upCols _ _ (by decide))
    dsimp only [Matrix.cons_val]
    after_results_simp
    rfl

end Cert.Final
-- ==== Proof.Final.Point.lean ====
/- What the three kinds of grid point of the last layer's block (the first, the middle ones, the last) leave. -/
module

public import proofs.«01_k».proof.Proof.Final.Block

@[expose] public section

set_option maxRecDepth 16384

noncomputable section

namespace Cert.Final

open Cert.Ffn Cert.Kernel4Ideal Cert.Kernel4Ideal.Gen Idealize.ShloMosaic Idealize.ShloMosaic.TcCoe Idealize.SL.Sem

variable (c : Dev nD) (i : grid0.Coords) (arg1 : Memref sig .tc .vmem S512x1024 .f32) (harg1 : arg1.IsWhole) (arg2 : Memref sig .tc .vmem S16x2816 .f32) (harg2 : arg2.IsWhole) (arg3 : Memref sig .tc .vmem S1x1x1024 .f32) (harg3 : arg3.IsWhole) (arg4 : Memref sig .tc .vmem S1x3x2816 .f32) (harg4 : arg4.IsWhole) (arg5 : Memref sig .tc .vmem S1x1x2816 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S512x1024 .f32) (harg9 : arg9.IsWhole) (arg10 : Memref sig .tc .vmem S16x2816 .f32) (harg10 : arg10.IsWhole) (arg11 : Memref sig .tc .vmem S16x2816 .f32) (harg11 : arg11.IsWhole) (arg12 : Memref sig .tc .vmem S272x512 .f32) (harg12 : arg12.IsWhole) (arg13 : Memref sig .tc .vmem S272x512 .f32) (harg13 : arg13.IsWhole) (arg14 : Memref sig .tc .vmem S272x512 .f32) (harg14 : arg14.IsWhole) (arg15 : Memref sig .tc .vmem S272x512 .f32) (harg15 : arg15.IsWhole) (arg16 : Memref sig .tc .vmem S272x512 .f32) (harg16 : arg16.IsWhole)
  (x0 : Vec Ideal S512x1024 .f32) (x1 : Vec Ideal S16x2816 .f32) (x2 : Vec Ideal S1x1x1024 .f32) (x3 : Vec Ideal S1x3x2816 .f32) (x4 : Vec Ideal S1x1x2816 .f32) (x5 : Vec Ideal S1x1024 .f32) (x6 : Vec Ideal S1024x5632 .bf16) (x7 : Vec Ideal S2816x1024 .bf16) (xs0 : Vec Ideal S16x2816 .f32)

set_option maxHeartbeats 4000000 in
/-- The first point: the output rows it leaves. -/
theorem out_A (hc0 : cond0_0 i) (hc1 : ¬cond0_1 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = View.canon (normOut x0 x2 x3 x4 x5 x6 x7 x1) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, ↓rd_last, shapeCast_self]
  simp only [rd_wdRows', rd_last', last_gvTile, fold_convTile, last_actTile, last_downTile, last_finNorm, last_hNorm]
  simp only [normOut, tiles, tile, gv, hRows, Nat.reduceMul, Nat.reduceAdd]
  rfl

set_option maxHeartbeats 4000000 in
/-- The first point: the rows it carries on. -/
theorem carry_A (hc0 : cond0_0 i) (hc1 : ¬cond0_1 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = carryOut x6 (hRows x0 x2 256) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)]
  unfold kernelRun0_A
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, ↓rd_last, shapeCast_self]
  simp only [last_gvTile]
  funext y
  have hy : (y 1).val < 2816 := (y 1).isLt
  refine carry_step x6 (hRows x0 x2 256) _ _ 10 _ _ y rfl rfl fun h10 => carry_step x6 (hRows x0 x2 256) _ _ 9 _ _ y rfl rfl fun h9 => carry_step x6 (hRows x0 x2 256) _ _ 8 _ _ y rfl rfl fun h8 => carry_step x6 (hRows x0 x2 256) _ _ 7 _ _ y rfl rfl fun h7 => carry_step x6 (hRows x0 x2 256) _ _ 6 _ _ y rfl rfl fun h6 => carry_step x6 (hRows x0 x2 256) _ _ 5 _ _ y rfl rfl fun h5 => carry_step x6 (hRows x0 x2 256) _ _ 4 _ _ y rfl rfl fun h4 => carry_step x6 (hRows x0 x2 256) _ _ 3 _ _ y rfl rfl fun h3 => carry_step x6 (hRows x0 x2 256) _ _ 2 _ _ y rfl rfl fun h2 => carry_step x6 (hRows x0 x2 256) _ _ 1 _ _ y rfl rfl fun h1 => carry_step x6 (hRows x0 x2 256) _ _ 0 _ _ y rfl rfl fun h0 => absurd hy (by omega)

set_option maxHeartbeats 4000000 in
/-- A middle point: the output rows it leaves. -/
theorem out_B (hc0 : ¬cond0_0 i) (hc1 : ¬cond0_1 i) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = View.canon (normOut x0 x2 x3 x4 x5 x6 x7 xs0) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_B
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, ↓rd_last, shapeCast_self]
  simp only [rd_wdRows', rd_last', last_gvTile, fold_convTile, last_actTile, last_downTile, last_finNorm, last_hNorm]
  simp only [normOut, tiles, tile, gv, hRows, Nat.reduceMul, Nat.reduceAdd]
  rfl

set_option maxHeartbeats 4000000 in
/-- A middle point: the rows it carries on. -/
theorem carry_B (hc0 : ¬cond0_0 i) (hc1 : ¬cond0_1 i) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = carryOut x6 (hRows x0 x2 256) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_B
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, ↓rd_last, shapeCast_self]
  simp only [last_gvTile]
  funext y
  have hy : (y 1).val < 2816 := (y 1).isLt
  refine carry_step x6 (hRows x0 x2 256) _ _ 10 _ _ y rfl rfl fun h10 => carry_step x6 (hRows x0 x2 256) _ _ 9 _ _ y rfl rfl fun h9 => carry_step x6 (hRows x0 x2 256) _ _ 8 _ _ y rfl rfl fun h8 => carry_step x6 (hRows x0 x2 256) _ _ 7 _ _ y rfl rfl fun h7 => carry_step x6 (hRows x0 x2 256) _ _ 6 _ _ y rfl rfl fun h6 => carry_step x6 (hRows x0 x2 256) _ _ 5 _ _ y rfl rfl fun h5 => carry_step x6 (hRows x0 x2 256) _ _ 4 _ _ y rfl rfl fun h4 => carry_step x6 (hRows x0 x2 256) _ _ 3 _ _ y rfl rfl fun h3 => carry_step x6 (hRows x0 x2 256) _ _ 2 _ _ y rfl rfl fun h2 => carry_step x6 (hRows x0 x2 256) _ _ 1 _ _ y rfl rfl fun h1 => carry_step x6 (hRows x0 x2 256) _ _ 0 _ _ y rfl rfl fun h0 => absurd hy (by omega)

set_option maxHeartbeats 4000000 in
/-- The last point: the output rows it leaves. -/
theorem out_C (hc0 : ¬cond0_0 i) (hc1 : cond0_1 i) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = View.canon (normOut x0 x2 x3 x4 x5 x6 x7 xs0) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_C
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, ↓rd_last, shapeCast_self]
  simp only [rd_wdRows', rd_last', last_gvTile, fold_convTile, last_actTile, last_downTile, last_finNorm, last_hNorm]
  simp only [normOut, tiles, tile, gv, hRows, Nat.reduceMul, Nat.reduceAdd]
  rfl

set_option maxHeartbeats 4000000 in
/-- The last point: the rows it carries on. -/
theorem carry_C (hc0 : ¬cond0_0 i) (hc1 : cond0_1 i) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = carryOut x6 (hRows x0 x2 256) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_C
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, ↓rd_last, shapeCast_self]
  simp only [last_gvTile]
  funext y
  have hy : (y 1).val < 2816 := (y 1).isLt
  refine carry_step x6 (hRows x0 x2 256) _ _ 10 _ _ y rfl rfl fun h10 => carry_step x6 (hRows x0 x2 256) _ _ 9 _ _ y rfl rfl fun h9 => carry_step x6 (hRows x0 x2 256) _ _ 8 _ _ y rfl rfl fun h8 => carry_step x6 (hRows x0 x2 256) _ _ 7 _ _ y rfl rfl fun h7 => carry_step x6 (hRows x0 x2 256) _ _ 6 _ _ y rfl rfl fun h6 => carry_step x6 (hRows x0 x2 256) _ _ 5 _ _ y rfl rfl fun h5 => carry_step x6 (hRows x0 x2 256) _ _ 4 _ _ y rfl rfl fun h4 => carry_step x6 (hRows x0 x2 256) _ _ 3 _ _ y rfl rfl fun h3 => carry_step x6 (hRows x0 x2 256) _ _ 2 _ _ y rfl rfl fun h2 => carry_step x6 (hRows x0 x2 256) _ _ 1 _ _ y rfl rfl fun h1 => carry_step x6 (hRows x0 x2 256) _ _ 0 _ _ y rfl rfl fun h0 => absurd hy (by omega)

set_option maxHeartbeats 4000000 in
/-- The last point: the convolution's final rows are the rows carried on. -/
theorem final_C (hc0 : ¬cond0_0 i) (hc1 : cond0_1 i) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0 = carryOut x6 (hRows x0 x2 256) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0)]
  unfold kernelRun0_C
  dsimp only
  sl_unfold_run_names
  unfold_payloads
  simp (decide := true) only [↓slot_rows, ↓slot_val, ↓slot_last, ↓View.readCov_cons_toLoadRect, ↓carry_skip, ↓carry_top, ↓carry_whole, ↓rd_chist, ↓rd_xRows, ↓rd_cwCols, ↓rd_cbCols, ↓rd_wgCols, ↓rd_wdRows, ↓rd_topCols, ↓rd_norm, ↓rd_last, shapeCast_self]
  simp only [last_gvTile]
  refine (whole_canon _ _ _).trans ((carry_whole _ _ _).trans ?_)
  funext y
  have hy : (y 1).val < 2816 := (y 1).isLt
  refine carry_step x6 (hRows x0 x2 256) _ _ 10 _ _ y rfl rfl fun h10 => carry_step x6 (hRows x0 x2 256) _ _ 9 _ _ y rfl rfl fun h9 => carry_step x6 (hRows x0 x2 256) _ _ 8 _ _ y rfl rfl fun h8 => carry_step x6 (hRows x0 x2 256) _ _ 7 _ _ y rfl rfl fun h7 => carry_step x6 (hRows x0 x2 256) _ _ 6 _ _ y rfl rfl fun h6 => carry_step x6 (hRows x0 x2 256) _ _ 5 _ _ y rfl rfl fun h5 => carry_step x6 (hRows x0 x2 256) _ _ 4 _ _ y rfl rfl fun h4 => carry_step x6 (hRows x0 x2 256) _ _ 3 _ _ y rfl rfl fun h3 => carry_step x6 (hRows x0 x2 256) _ _ 2 _ _ y rfl rfl fun h2 => carry_step x6 (hRows x0 x2 256) _ _ 1 _ _ y rfl rfl fun h1 => carry_step x6 (hRows x0 x2 256) _ _ 0 _ _ y rfl rfl fun h0 => absurd hy (by omega)

end Cert.Final
-- ==== Proof.Final.Carry.lean ====
/- The last layer's launch: what each point reads of the arguments, the carried rows after every point, and the two
   results at an index. -/
module

public import proofs.«01_k».proof.Proof.Ffn.Carry
public import proofs.«01_k».proof.Proof.Final.Host
public import proofs.«01_k».proof.Proof.Final.Point
public import proofs.«01_k».proof.Proof.Gen.Kernel4Ideal.Value

@[expose] public section

set_option maxRecDepth 16384

noncomputable section

namespace Cert.Final

open Cert.Ffn Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

/-! ## What a point reads -/

/-- A window whose block never moves, at block zero, reads the array at the same index. -/
theorem iblk_x (c : Dev nD) (t : Fin cfg0.N) (r : Fin 512) (d : Fin 1024) :
    (iblk m c 0 t : Vec Ideal S512x1024 .f32) (ix2 r d) = argX (m ((c : Thread nD τ).loc main_arg0)) (512 * t.val + r.val) d := by
  have hN : cfg0.N = 32 := N_0
  have hi : win0_0.index t 0 = t.val ∧ win0_0.index t 1 = 0 := by
    constructor
    · revert t; decide
    · revert t; decide
  unfold iblk argX
  rw [View.read_apply]
  show V m c main_arg0 _ = _
  rw [V_main_arg0]
  refine congrArg (m ((c : Thread nD τ).loc main_arg0)) (funext fun a => Fin.ext ?_)
  fin_cases a
  · show win0_0.index t 0 * 512 + 1 * r.val = (at_ 16383 0 (512 * t.val + r.val)).val
    rw [hi.1, at_val (by have := t.isLt; omega)]; omega
  · show win0_0.index t 1 * 1024 + 1 * d.val = d.val
    rw [hi.2]; omega

theorem iblk_hist (c : Dev nD) (t : Fin cfg0.N) (i : Fin 16) (f : Fin 2816) :
    (iblk m c 1 t : Vec Ideal S16x2816 .f32) (ix2 i f) = argT (m ((c : Thread nD τ).loc main_arg1)) i.val f.val := by
  unfold iblk argT
  rw [View.read_apply, at_zero, at_zero]
  show V m c main_arg1 _ = _
  rw [V_main_arg1]
  refine congrArg (m ((c : Thread nD τ).loc main_arg1)) (funext fun a => Fin.ext ?_)
  fin_cases a
  · show 0 * 16 + 1 * i.val = i.val; omega
  · show 0 * 2816 + 1 * f.val = f.val; omega

theorem iblk_gain (c : Dev nD) (t : Fin cfg0.N) (d : Fin 1024) :
    (iblk m c 2 t : Vec Ideal S1x1x1024 .f32) (ix3 0 0 d) = argG 1 (m ((c : Thread nD τ).loc main_arg2)) d := by
  unfold iblk argG
  rw [View.read_apply]
  show V m c main_v33 _ = _
  rw [V_gain]
  refine congrArg (m ((c : Thread nD τ).loc main_arg2)) (funext fun a => Fin.ext ?_)
  fin_cases a
  · rfl
  · show 0 * 1024 + 1 * d.val = d.val; omega

theorem iblk_taps (c : Dev nD) (t : Fin cfg0.N) (k : Fin 3) (f : Fin 2816) :
    (iblk m c 3 t : Vec Ideal S1x3x2816 .f32) (ix3 0 k f) = argCw 1 (m ((c : Thread nD τ).loc main_arg4)) k f.val := by
  unfold iblk argCw
  rw [View.read_apply, at_zero]
  show V m c main_arg4 _ = _
  rw [V_main_arg4]
  refine congrArg (m ((c : Thread nD τ).loc main_arg4)) (funext fun a => Fin.ext ?_)
  fin_cases a
  · rfl
  · show 0 * 3 + 1 * k.val = k.val; omega
  · show 0 * 2816 + 1 * f.val = f.val; omega

theorem iblk_bias (c : Dev nD) (t : Fin cfg0.N) (f : Fin 2816) :
    (iblk m c 4 t : Vec Ideal S1x1x2816 .f32) (ix3 0 0 f) = argCb 1 (m ((c : Thread nD τ).loc main_arg5)) f.val := by
  unfold iblk argCb
  rw [View.read_apply, at_zero]
  show V m c main_v34 _ = _
  rw [V_bias]
  refine congrArg (m ((c : Thread nD τ).loc main_arg5)) (funext fun a => Fin.ext ?_)
  fin_cases a
  · rfl
  · show 0 * 2816 + 1 * f.val = f.val; omega

theorem iblk_final (c : Dev nD) (t : Fin cfg0.N) (n : Fin 1024) :
    (iblk m c 5 t : Vec Ideal S1x1024 .f32) (ix2 0 n) = (m ((c : Thread nD τ).loc main_arg7) : Vec Ideal S1024 .f32) (ix1 n) := by
  unfold iblk
  rw [View.read_apply]
  show V m c main_v35 _ = _
  rw [V_final]
  refine congrArg (m ((c : Thread nD τ).loc main_arg7)) (funext fun a => Fin.ext ?_)
  fin_cases a
  show 0 * 1024 + 1 * n.val = n.val; omega

theorem iblk_up (c : Dev nD) (t : Fin cfg0.N) (d : Fin 1024) (n : Fin 5632) :
    (iblk m c 6 t : Vec Ideal S1024x5632 .bf16) (ix2 d n) = interleave (upMat1 (m ((c : Thread nD τ).loc main_arg3))) (ix2 d n) := by
  unfold iblk
  rw [View.read_apply]
  show V m c main_v27 _ = _
  rw [V_up]
  refine congrArg (interleave (upMat1 (m ((c : Thread nD τ).loc main_arg3)))) (funext fun a => Fin.ext ?_)
  fin_cases a
  · show 0 * 1024 + 1 * d.val = d.val; omega
  · show 0 * 5632 + 1 * n.val = n.val; omega

theorem iblk_down (c : Dev nD) (t : Fin cfg0.N) (f : Fin 2816) (n : Fin 1024) :
    (iblk m c 7 t : Vec Ideal S2816x1024 .bf16) (ix2 f n) = half * argD 1 (m ((c : Thread nD τ).loc main_arg6)) f.val n := by
  unfold iblk argD
  rw [View.read_apply, at_zero, ← downHalf1_apply]
  show V m c main_v32 _ = _
  rw [V_down]
  refine congrArg (downHalf1 (m ((c : Thread nD τ).loc main_arg6))) (funext fun a => Fin.ext ?_)
  fin_cases a
  · show 0 * 2816 + 1 * f.val = f.val; omega
  · show 0 * 1024 + 1 * n.val = n.val; omega

/-- Tile `f`'s 512 interleaved columns are its gate columns and then its value columns. -/
theorem iblk_piece (c : Dev nD) (t : Fin cfg0.N) (d : Fin 1024) (f p j n : ℕ) (hf : f < 11) (hp : p < 2) (hj : j < 256) (hn : n < 5632)
    (e : n = 256 * (2 * f + p) + j) :
    (iblk m c 6 t : Vec Ideal S1024x5632 .bf16) (ix2 d ⟨n, hn⟩) = argW 1 (m ((c : Thread nD τ).loc main_arg3)) d (2816 * p + 256 * f + j) := by
  subst e
  rw [iblk_up, interleave_apply _ d (2 * f + p) j (by omega) hj]
  show upMat1 _ (ix2 d (at_ 5631 (2816 * ((2 * f + p) % 2) + 256 * ((2 * f + p) / 2)) j)) = _
  rw [upMat1_apply, show (2 * f + p) % 2 = p by omega, show (2 * f + p) / 2 = f by omega, at_add (by omega)]
  rfl

theorem operands (c : Dev nD) (t : Fin cfg0.N) :
    Operands (argG 1 (m ((c : Thread nD τ).loc main_arg2))) (argW 1 (m ((c : Thread nD τ).loc main_arg3))) (argCw 1 (m ((c : Thread nD τ).loc main_arg4)))
      (argCb 1 (m ((c : Thread nD τ).loc main_arg5))) (argD 1 (m ((c : Thread nD τ).loc main_arg6)))
      (iblk m c 2 t) (iblk m c 3 t) (iblk m c 4 t) (iblk m c 6 t) (iblk m c 7 t) where
  gain := iblk_gain m c t
  taps := iblk_taps m c t
  bias := iblk_bias m c t
  gate d f j hf hj h := (iblk_piece m c t d f 0 j _ hf (by omega) hj h (by omega)).trans (congrArg _ (by omega))
  value d f j hf hj h := (iblk_piece m c t d f 1 j _ hf (by omega) hj h (by omega)).trans (congrArg _ (by omega))
  down := iblk_down m c t

/-! ## After every point -/

/-- Row `i` of the carried rows before global row `R`, and the layer's output, of the arguments in `m`. -/
def rowsIn (c : Dev nD) (i f : ℕ) : EReal :=
  ext (argX (m ((c : Thread nD τ).loc main_arg0))) (argG 1 (m ((c : Thread nD τ).loc main_arg2))) (argW 1 (m ((c : Thread nD τ).loc main_arg3)))
    (argT (m ((c : Thread nD τ).loc main_arg1))) i f
def rowsOut (c : Dev nD) (R : ℕ) (n : Fin 1024) : EReal :=
  out (argX (m ((c : Thread nD τ).loc main_arg0))) (argG 1 (m ((c : Thread nD τ).loc main_arg2))) (argW 1 (m ((c : Thread nD τ).loc main_arg3)))
    (argT (m ((c : Thread nD τ).loc main_arg1))) (argCw 1 (m ((c : Thread nD τ).loc main_arg4)))
      (argCb 1 (m ((c : Thread nD τ).loc main_arg5))) (argD 1 (m ((c : Thread nD τ).loc main_arg6))) R n

/-- The last layer's rows, normalised. -/
def rowsEnd (c : Dev nD) (R : ℕ) (n : Fin 1024) : EReal :=
  nrm (rowsOut m c) (fun n => (m ((c : Thread nD τ).loc main_arg7) : Vec Ideal S1024 .f32) (ix1 n)) R n

theorem block_at (c : Dev nD) (t : Fin cfg0.N) (xs : Vec Ideal S16x2816 .f32)
    (hs : ∀ (i : Fin 16) (f : Fin 2816), xs (ix2 i f) = rowsIn m c (512 * t.val + i.val) f.val) (r : Fin 512) (n : Fin 1024) :
    View.canon (normOut (iblk m c 0 t) (iblk m c 2 t) (iblk m c 3 t) (iblk m c 4 t) (iblk m c 5 t) (iblk m c 6 t) (iblk m c 7 t) xs) (ix2 r n)
      = rowsEnd m c (512 * t.val + r.val) n :=
  normOut_apply _ _ _ _ _ _ _ _ (rowsOut m c) _ _ r
    (fun n => blockOut_apply _ _ _ _ _ _ _ (operands m c t) (512 * t.val) (iblk_x m c t) hs r n) (iblk_final m c t) n

theorem carry_at (c : Dev nD) (t : Fin cfg0.N) (i : Fin 16) (f : Fin 2816) :
    carryOut (iblk m c 6 t) (hRows (iblk m c 0 t) (iblk m c 2 t) 256) (ix2 i f) = rowsIn m c (512 * (t.val + 1) + i.val) f.val :=
  (carryOut_apply _ _ _ (argT (m ((c : Thread nD τ).loc main_arg1))) _ _ _ (operands m c t) (512 * t.val) (iblk_x m c t) i f).trans
    (congrArg (fun R => rowsIn m c (R + i.val) f.val) (by omega))

/-! The first point reads the carried rows from the argument, a later one from what the point before it left. -/

theorem rows_A (c : Dev nD) (t : Fin cfg0.N) (h0 : t.val % 32 = 0) (h1 : ¬t.val % 32 = 31) :
    (outsAt0 m c t.val t.isLt).1 = View.canon (normOut (iblk m c 0 t) (iblk m c 2 t) (iblk m c 3 t) (iblk m c 4 t) (iblk m c 5 t) (iblk m c 6 t) (iblk m c 7 t) (iblk m c 1 t)) := by
  rw [outsAt0_A m c t h0 h1]
  dsimp only
  exact out_A ..

theorem carried_A (c : Dev nD) (t : Fin cfg0.N) (h0 : t.val % 32 = 0) (h1 : ¬t.val % 32 = 31) :
    (outsAt0 m c t.val t.isLt).2.2 = carryOut (iblk m c 6 t) (hRows (iblk m c 0 t) (iblk m c 2 t) 256) := by
  rw [outsAt0_A m c t h0 h1]
  dsimp only
  exact carry_A ..

theorem rows_B (c : Dev nD) (t : Fin cfg0.N) (h0 : ¬t.val % 32 = 0) (h1 : ¬t.val % 32 = 31) :
    (outsAt0 m c t.val t.isLt).1 = View.canon (normOut (iblk m c 0 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  rw [outsAt0_B m c t h0 h1]
  dsimp only
  exact out_B ..

theorem carried_B (c : Dev nD) (t : Fin cfg0.N) (h0 : ¬t.val % 32 = 0) (h1 : ¬t.val % 32 = 31) :
    (outsAt0 m c t.val t.isLt).2.2 = carryOut (iblk m c 6 t) (hRows (iblk m c 0 t) (iblk m c 2 t) 256) := by
  rw [outsAt0_B m c t h0 h1]
  dsimp only
  exact carry_B ..

theorem rows_C (c : Dev nD) (t : Fin cfg0.N) (h0 : ¬t.val % 32 = 0) (h1 : t.val % 32 = 31) :
    (outsAt0 m c t.val t.isLt).1 = View.canon (normOut (iblk m c 0 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  rw [outsAt0_C m c t h0 h1]
  dsimp only
  exact out_C ..

theorem carried_C (c : Dev nD) (t : Fin cfg0.N) (h0 : ¬t.val % 32 = 0) (h1 : t.val % 32 = 31) :
    (outsAt0 m c t.val t.isLt).2.2 = carryOut (iblk m c 6 t) (hRows (iblk m c 0 t) (iblk m c 2 t) 256) := by
  rw [outsAt0_C m c t h0 h1]
  dsimp only
  exact carry_C ..

theorem last_C (c : Dev nD) (t : Fin cfg0.N) (h0 : ¬t.val % 32 = 0) (h1 : t.val % 32 = 31) :
    (outsAt0 m c t.val t.isLt).2.1 = carryOut (iblk m c 6 t) (hRows (iblk m c 0 t) (iblk m c 2 t) 256) := by
  rw [outsAt0_C m c t h0 h1]
  dsimp only
  exact final_C ..

/-- The rows carried on by every point. -/
theorem carried_at (c : Dev nD) (t : Fin cfg0.N) (i : Fin 16) (f : Fin 2816) :
    (outsAt0 m c t.val t.isLt).2.2 (ix2 i f) = rowsIn m c (512 * (t.val + 1) + i.val) f.val := by
  have hN : t.val < 32 := lt_of_lt_of_eq t.isLt N_0
  rw [← carry_at m c t]
  by_cases h0 : t.val % 32 = 0
  · rw [carried_A m c t h0 (by omega)]
  · by_cases h1 : t.val % 32 = 31
    · rw [carried_C m c t h0 h1]
    · rw [carried_B m c t h0 h1]

/-- The rows a later point finds carried in. -/
theorem before_at (c : Dev nD) (t : Fin cfg0.N) (h0 : ¬t.val % 32 = 0) (h : t.val - 1 < cfg0.N) (i : Fin 16) (f : Fin 2816) :
    (outsAt0 m c (t.val - 1) h).2.2 (ix2 i f) = rowsIn m c (512 * t.val + i.val) f.val :=
  (carried_at m c ⟨t.val - 1, h⟩ i f).trans (congrArg (fun R => rowsIn m c (512 * R + i.val) f.val) (by show t.val - 1 + 1 = t.val; omega))

/-- The rows the first point finds carried in. -/
theorem first_at (c : Dev nD) (t : Fin cfg0.N) (h0 : t.val = 0) (i : Fin 16) (f : Fin 2816) :
    (iblk m c 1 t : Vec Ideal S16x2816 .f32) (ix2 i f) = rowsIn m c (512 * t.val + i.val) f.val := by
  rw [iblk_hist, h0, Nat.mul_zero, Nat.zero_add]
  unfold rowsIn ext
  rw [if_pos i.isLt]

/-- The rows output by every point. -/
theorem rows_at (c : Dev nD) (t : Fin cfg0.N) (r : Fin 512) (n : Fin 1024) :
    (outsAt0 m c t.val t.isLt).1 (ix2 r n) = rowsEnd m c (512 * t.val + r.val) n := by
  have hN : t.val < 32 := lt_of_lt_of_eq t.isLt N_0
  by_cases h0 : t.val % 32 = 0
  · rw [rows_A m c t h0 (by omega)]
    exact block_at m c t _ (first_at m c t (by omega)) r n
  · by_cases h1 : t.val % 32 = 31
    · rw [rows_C m c t h0 h1]
      exact block_at m c t _ (before_at m c t h0 _) r n
    · rw [rows_B m c t h0 h1]
      exact block_at m c t _ (before_at m c t h0 _) r n

/-! ## The results -/

/-- The output array is the layer's rows. -/
theorem result_out (c : Dev nD) (R : Fin 16384) (n : Fin 1024) : (G8 m c : Vec Ideal S16384x1024 .f32) (ix2 R n) = rowsEnd m c R.val n := by
  have hN : cfg0.N = 32 := N_0
  have hp : pt8Of (ix2 R n) = R.val / 512 := by
    show 1 * (R.val / 512 - 0) + 1 * (n.val / 1024 - 0) = _
    omega
  have h : pt8Of (ix2 R n) < cfg0.N := by rw [hp]; omega
  unfold G8
  rw [dif_pos h, ← outsAt0_sweep]
  have hl : loc8Of (ix2 R n) = ix2 (⟨R.val % 512, by omega⟩ : Fin 512) n := funext fun a => by
    fin_cases a
    · rfl
    · exact Fin.ext (by show n.val % 1024 = n.val; omega)
  rw [hl]
  refine (rows_at m c ⟨_, h⟩ _ n).trans ?_
  show rowsEnd m c (512 * pt8Of (ix2 R n) + R.val % 512) n = _
  rw [hp]
  exact congrArg (fun R => rowsEnd m c R n) (Nat.div_add_mod _ _)

/-- The other result is the last sixteen gate rows. -/
theorem result_rows (c : Dev nD) (i : Fin 16) (f : Fin 2816) : (G9 m c : Vec Ideal S16x2816 .f32) (ix2 i f) = rowsIn m c (16384 + i.val) f.val := by
  have hN : cfg0.N = 32 := N_0
  have h : 31 < cfg0.N := by omega
  rw [G9_last, ← outsAt0_sweep m c 31 h]
  refine (congrFun (last_C m c ⟨31, h⟩ (by show ¬31 % 32 = 0; omega) rfl) _).trans ?_
  exact carry_at m c ⟨31, h⟩ i f

end Cert.Final
-- ==== Proof.Final.Ref.lean ====
/- The last layer as it is written plainly, and the final normalisation over it, in the steps of the first layer's reference. -/
module

public import proofs.«01_k».proof.Proof.Ffn.Ref
public import proofs.«01_k».proof.Proof.Gen.Reference4Ideal.Run

@[expose] public section

set_option maxRecDepth 16384

noncomputable section

namespace Cert.FinalRef

open Cert.Ffn Cert.FfnRef Cert.Reference4Ideal Cert.Reference4Ideal.Gen Cert.Reference4Ideal.Value Idealize.ShloMosaic Idealize.ShloMosaic.TcCoe Idealize.SL.Sem

/-! ## The weights of the last layer -/

section
variable (a2 : FVec Ideal S2x1024 .f32) (a3 : FVec Ideal S2x1024x5632 .f32) (a4 : FVec Ideal S2x3x2816 .f32) (a5 : FVec Ideal S2x2816 .f32)
  (a6 : FVec Ideal S2x2816x1024 .f32)

def gain1 : FVec Ideal S1024 .f32 := shapeCast S1024 (extractStridedSlice S1x1024 ![1, 0] a2 slices_S2x1024_S1x1024_1_0) shapeCasts_S1x1024_S1024
def upW1 : FVec Ideal S1024x5632 .f32 :=
  shapeCast S1024x5632 (extractStridedSlice S1x1024x5632 ![1, 0, 0] a3 slices_S2x1024x5632_S1x1024x5632_1_0_0) shapeCasts_S1x1024x5632_S1024x5632
def tap01 : FVec Ideal S2816 .f32 := shapeCast S2816 (extractStridedSlice S1x1x2816 ![1, 0, 0] a4 slices_S2x3x2816_S1x1x2816_1_0_0) shapeCasts_S1x1x2816_S2816
def tap11 : FVec Ideal S2816 .f32 := shapeCast S2816 (extractStridedSlice S1x1x2816 ![1, 1, 0] a4 slices_S2x3x2816_S1x1x2816_1_1_0) shapeCasts_S1x1x2816_S2816
def tap21 : FVec Ideal S2816 .f32 := shapeCast S2816 (extractStridedSlice S1x1x2816 ![1, 2, 0] a4 slices_S2x3x2816_S1x1x2816_1_2_0) shapeCasts_S1x1x2816_S2816
def biasOf1 : FVec Ideal S2816 .f32 := shapeCast S2816 (extractStridedSlice S1x2816 ![1, 0] a5 slices_S2x2816_S1x2816_1_0) shapeCasts_S1x2816_S2816
def downW1 : FVec Ideal S2816x1024 .f32 :=
  shapeCast S2816x1024 (extractStridedSlice S1x2816x1024 ![1, 0, 0] a6 slices_S2x2816x1024_S1x2816x1024_1_0_0) shapeCasts_S1x2816x1024_S2816x1024

theorem gain1_apply (d : Fin 1024) : gain1 a2 (ix1 d) = argG 1 a2 d := by
  unfold argG
  pointwise [gain1]
theorem upW1_apply (d : Fin 1024) (n : Fin 5632) : upW1 a3 (ix2 d n) = argW 1 a3 d n.val := by
  unfold argW
  rw [at_zero]
  pointwise [upW1]
theorem tap01_apply (f : Fin 2816) : tap01 a4 (ix1 f) = argCw 1 a4 0 f.val := by
  unfold argCw
  rw [at_zero]
  pointwise [tap01]
theorem tap11_apply (f : Fin 2816) : tap11 a4 (ix1 f) = argCw 1 a4 1 f.val := by
  unfold argCw
  rw [at_zero]
  pointwise [tap11]
theorem tap21_apply (f : Fin 2816) : tap21 a4 (ix1 f) = argCw 1 a4 2 f.val := by
  unfold argCw
  rw [at_zero]
  pointwise [tap21]
theorem biasOf1_apply (f : Fin 2816) : biasOf1 a5 (ix1 f) = argCb 1 a5 f.val := by
  unfold argCb
  rw [at_zero]
  pointwise [biasOf1]
theorem downW1_apply (f : Fin 2816) (n : Fin 1024) : downW1 a6 (ix2 f n) = argD 1 a6 f.val n := by
  unfold argD
  rw [at_zero]
  pointwise [downW1]

variable (a0 : FVec Ideal S16384x1024 .f32) (a1 : FVec Ideal S16x2816 .f32) (a7 : FVec Ideal S1024 .f32)

/-- The reference's two results. -/
def endOut : FVec Ideal S16384x1024 .f32 :=
  flat (normed a7 (layer a0 a1 (gain1 a2) (upW1 a3) (tap01 a4) (tap11 a4) (tap21 a4) (biasOf1 a5) (downW1 a6)))
@[inherit_doc endOut]
def endRows : FVec Ideal S16x2816 .f32 := lasted a0 a1 (gain1 a2) (upW1 a3)

theorem endOut_apply (R : Fin 16384) (n : Fin 1024) : endOut a2 a3 a4 a5 a6 a0 a1 a7 (ix2 R n)
    = nrm (out (argX a0) (argG 1 a2) (argW 1 a3) (argT a1) (argCw 1 a4) (argCb 1 a5) (argD 1 a6)) (fun n => a7 (ix1 n)) R.val n := by
  unfold endOut
  rw [flat_apply, normed_apply a7 (fun n => a7 (ix1 n)) (fun _ => rfl) _ _
    (layer_apply a0 a1 _ _ _ _ _ _ _ _ (gain1_apply a2) _ (upW1_apply a3) _ _ (tap01_apply a4) (tap11_apply a4) (tap21_apply a4) (biasOf1_apply a5) _ (downW1_apply a6))]
  exact congrArg (fun R => nrm _ _ R n) (Nat.div_add_mod _ _)

theorem endRows_apply (i : Fin 16) (f : Fin 2816) : endRows a2 a3 a0 a1 (ix2 i f)
    = ext (argX a0) (argG 1 a2) (argW 1 a3) (argT a1) (16384 + i.val) f.val :=
  lasted_apply a0 a1 _ _ _ (gain1_apply a2) _ (upW1_apply a3) i f

end

variable (m : (ℓ : Loc nD τ sig) → Buf (Elt Ideal) ℓ) (c : Dev nD)

theorem res_eq :
    res_main_v79 m c = endOut (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg0)) (m ((c : Thread nD τ).loc main_arg1)) (m ((c : Thread nD τ).loc main_arg7)) := by
  unfold res_main_v79
  rfl

/-- What the reference leaves in its two results. -/
theorem run_steps (ρ : Dev nD → PrngReg) :
    θ_run (defs (F := Ideal)) (onTc (τ := τ) (main (F := Ideal))) ⟨m, fun _ => 0, ρ⟩ fun r => ∀ c : Dev nD,
      r.2.mem ((c.tc : Thread nD τ).loc main_v79) = endOut (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg0)) (m ((c : Thread nD τ).loc main_arg1)) (m ((c : Thread nD τ).loc main_arg7))
      ∧ r.2.mem ((c.tc : Thread nD τ).loc main_v81) = endRows (m ((c : Thread nD τ).loc main_arg2)) (m ((c : Thread nD τ).loc main_arg3))
      (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans (res_eq m c), (h c).2.1, (h c).2.2⟩) (run m ρ)

end Cert.FinalRef
-- ==== Proof.Final.Equal.lean ====
/- The last layer's kernel and its reference end with the same two results. -/
module

public import proofs.«01_k».proof.Defs
public import proofs.«01_k».proof.Proof.Final.Carry
public import proofs.«01_k».proof.Proof.Final.Ref

@[expose] public section

set_option maxRecDepth 16384

noncomputable section

namespace Cert.Final

open Idealize.ShloMosaic Idealize.ShloMosaic.TcCoe Idealize.SL.Sem

/-- The reference's two results, from the kernel's memory. -/
def result0 (m : (ℓ : Loc Kernel4Ideal.nD Kernel4Ideal.τ Kernel4Ideal.sig) → Buf (Elt Ideal) ℓ) (c : Dev Kernel4Ideal.nD) :
    FVec Ideal Kernel4Ideal.S16384x1024 .f32 :=
  FinalRef.endOut (m ((c : Thread Kernel4Ideal.nD Kernel4Ideal.τ).loc Kernel4Ideal.main_arg2)) (m ((c : Thread Kernel4Ideal.nD Kernel4Ideal.τ).loc Kernel4Ideal.main_arg3))
    (m ((c : Thread Kernel4Ideal.nD Kernel4Ideal.τ).loc Kernel4Ideal.main_arg4)) (m ((c : Thread Kernel4Ideal.nD Kernel4Ideal.τ).loc Kernel4Ideal.main_arg5))
    (m ((c : Thread Kernel4Ideal.nD Kernel4Ideal.τ).loc Kernel4Ideal.main_arg6)) (m ((c : Thread Kernel4Ideal.nD Kernel4Ideal.τ).loc Kernel4Ideal.main_arg0)) (m ((c : Thread Kernel4Ideal.nD Kernel4Ideal.τ).loc Kernel4Ideal.main_arg1)) (m ((c : Thread Kernel4Ideal.nD Kernel4Ideal.τ).loc Kernel4Ideal.main_arg7))

@[inherit_doc result0]
def result1 (m : (ℓ : Loc Kernel4Ideal.nD Kernel4Ideal.τ Kernel4Ideal.sig) → Buf (Elt Ideal) ℓ) (c : Dev Kernel4Ideal.nD) :
    FVec Ideal Kernel4Ideal.S16x2816 .f32 :=
  FinalRef.endRows (m ((c : Thread Kernel4Ideal.nD Kernel4Ideal.τ).loc Kernel4Ideal.main_arg2)) (m ((c : Thread Kernel4Ideal.nD Kernel4Ideal.τ).loc Kernel4Ideal.main_arg3))
    (m ((c : Thread Kernel4Ideal.nD Kernel4Ideal.τ).loc Kernel4Ideal.main_arg0)) (m ((c : Thread Kernel4Ideal.nD Kernel4Ideal.τ).loc Kernel4Ideal.main_arg1))

theorem out_eq (m : (ℓ : Loc Kernel4Ideal.nD Kernel4Ideal.τ Kernel4Ideal.sig) → Buf (Elt Ideal) ℓ) (c : Dev Kernel4Ideal.nD) :
    Kernel4Ideal.Value.G8 m c = result0 m c := by
  refine funext fun j => ?_
  rw [show j = ix2 (j 0) (j 1) by funext a; fin_cases a <;> rfl]
  exact (result_out m c (j 0) (j 1)).trans (FinalRef.endOut_apply _ _ _ _ _ _ _ _ _ _).symm

theorem rows_eq (m : (ℓ : Loc Kernel4Ideal.nD Kernel4Ideal.τ Kernel4Ideal.sig) → Buf (Elt Ideal) ℓ) (c : Dev Kernel4Ideal.nD) :
    Kernel4Ideal.Value.G9 m c = result1 m c := by
  refine funext fun j => ?_
  rw [show j = ix2 (j 0) (j 1) by funext a; fin_cases a <;> rfl]
  exact (result_rows m c (j 0) (j 1)).trans (FinalRef.endRows_apply _ _ _ _ _ _).symm

theorem algebraic : Cert.algebraic_Kernel4Ideal_Reference4Ideal (hKernel4Ideal := Cert.Kernel4Ideal.Gen.facts) (hReference4Ideal := Cert.Reference4Ideal.Gen.facts) := by
  intro m g m' g' _ hm
  refine ⟨result0 m, result1 m, (θ_run _ _ _).mono (fun _ h c => ?_) (Kernel4Ideal.Value.run m g),
    (θ_run _ _ _).mono (fun _ h c => ?_) (FinalRef.run_steps m' g')⟩
  · exact ⟨(h c).1.trans (out_eq m c), (h c).2.1.trans (rows_eq m c), (h c).2.2⟩
  · obtain ⟨e0, e1, e2, e3, e4, e5, e6, e7⟩ := hm c
    refine ⟨(h c).1.trans ?_, (h c).2.1.trans ?_, (h c).2.2⟩
    · unfold result0; rw [e0, e1, e2, e3, e4, e5, e6, e7]
    · unfold result1; rw [e0, e1, e2, e3]

end Cert.Final
-- ==== Proof.Disc.Left.lean ====
/- What one point of the discretisation's grid leaves in its output buffers: six buffers it stores whole, and three it fills
   with zeros before it stores each group's block on the diagonal. -/
module

public import proofs.«01_k».proof.Proof.Gen.Kernel3Ideal.Value
public import Idealize.ShloMosaic.Lib.Pointwise
public import Idealize.ShloMosaic.Lib.Pipeline.CanonAppend

@[expose] public section

set_option maxRecDepth 65536

noncomputable section

namespace Cert.Disc

open Cert.Kernel3Ideal Cert.Kernel3Ideal.Gen Idealize.ShloMosaic Idealize.ShloMosaic.TcCoe Idealize.ShloMosaic.Tactic Idealize.SL.Sem

/-! ## Reading whole input buffers, and lists of stores -/

theorem rd_line (a : Memref sig .tc .vmem S1x1x2048 .f32) (ha : a.IsWhole) (x : Vec Ideal S1x1x2048 .f32) (inb) :
    View.readAt (Elt Ideal) a.view (Rect.unit (s := S1x1x2048) ![0, 0, 0] ![1, 1, 2048] inb).toLoadRect (ha.unread x) = x := by
  rw [View.readAt_eq_ld, ha.read_unread]
  exact View.ld_unit_zero (by funext a; fin_cases a <;> rfl) _ _

theorem rd_rows (a : Memref sig .tc .vmem S1x16x2048 .f32) (ha : a.IsWhole) (x : Vec Ideal S1x16x2048 .f32) (inb) :
    View.readAt (Elt Ideal) a.view (Rect.unit (s := S1x16x2048) ![0, 0, 0] ![1, 16, 2048] inb).toLoadRect (ha.unread x) = x := by
  rw [View.readAt_eq_ld, ha.read_unread]
  exact View.ld_unit_zero (by funext a; fin_cases a <;> rfl) _ _

theorem rd_chans (a : Memref sig .tc .vmem S1x64x512 .f32) (ha : a.IsWhole) (x : Vec Ideal S1x64x512 .f32) (inb) :
    View.readAt (Elt Ideal) a.view (Rect.unit (s := S1x64x512) ![0, 0, 0] ![1, 64, 512] inb).toLoadRect (ha.unread x) = x := by
  rw [View.readAt_eq_ld, ha.read_unread]
  exact View.ld_unit_zero (by funext a; fin_cases a <;> rfl) _ _

/-- A newest store of the whole buffer leaves its payload. -/
theorem canon_whole {S : Shape} {e : EltTy} {off : Fin S.rank → ℕ} (h : off = fun _ => 0) (inb : ∀ a, off a + S.size a ≤ S.size a)
    (w : S.Idx → Elt Ideal e) {L : List (View.Piece (Elt Ideal) S e)} : View.canon (⟨Rect.unit off S.size inb, w⟩ :: L) = w := by
  subst h
  funext y
  have e : (Rect.unit (s := S) (fun _ => 0) S.size inb).emb y = y := funext fun a => Fin.ext (by show 0 + 1 * (y a).val = (y a).val; omega)
  exact (congrArg _ e.symm).trans (View.canon_cons_emb (Rect.unit (s := S) (fun _ => 0) S.size inb) w L y)

/-- Off every newer store, what the older stores left. -/
theorem canon_append_off {S : Shape} {e : EltTy} (L' : List (View.Piece (Elt Ideal) S e)) (y : S.Idx) :
    ∀ L : List (View.Piece (Elt Ideal) S e), (∀ p ∈ L, y ∉ p.1.set) → View.canon (L ++ L') y = View.canon L' y
  | [], _ => rfl
  | p :: L, h => by
    rw [List.cons_append, View.canon_cons_of_not_mem _ _ (h p List.mem_cons_self)]
    exact canon_append_off L' y L fun q hq => h q (List.mem_cons_of_mem _ hq)

/-! ## The stores of the diagonal blocks -/

/-- The discretised input matrix, real part then imaginary part, of every state. -/
def bbRe (x0 x1 x2 : Vec Ideal S1x1x2048 .f32) (x3 x4 : Vec Ideal S1x16x2048 .f32) : FVec Ideal S16x2048 .bf16 :=
  k0_pay20 (k0_pay6 x0) (k0_pay7 x1) (k0_pay8 x2) (k0_pay9 x0 x2) (k0_pay10 x0 x1 x2) x3 x4

@[inherit_doc bbRe]
def bbIm (x0 x1 x2 : Vec Ideal S1x1x2048 .f32) (x3 x4 : Vec Ideal S1x16x2048 .f32) : FVec Ideal S16x2048 .bf16 :=
  k0_pay21 (k0_pay6 x0) (k0_pay7 x1) (k0_pay8 x2) (k0_pay9 x0 x2) (k0_pay10 x0 x1 x2) x3 x4

theorem in_bb (k : Fin 64) : ∀ a, (![0, k.val / 2 / 8, 16 * (k.val / 2 % 8), 512 * (k.val % 2) + 64 * (k.val / 2 % 8)] : Fin 4 → ℕ) a
    + S1x1x16x64.size a ≤ S1x4x128x1024.size a := fun a => by
  fin_cases a
  · show 0 + 1 ≤ 1; omega
  · show k.val / 2 / 8 + 1 ≤ 4; omega
  · show 16 * (k.val / 2 % 8) + 16 ≤ 128; omega
  · show 512 * (k.val % 2) + 64 * (k.val / 2 % 8) + 64 ≤ 1024; omega

theorem in_c (g : Fin 32) : ∀ a, (![0, g.val / 8, 64 * (g.val % 8), 16 * (g.val % 8)] : Fin 4 → ℕ) a
    + S1x1x64x16.size a ≤ S1x4x512x128.size a := fun a => by
  fin_cases a
  · show 0 + 1 ≤ 1; omega
  · show g.val / 8 + 1 ≤ 4; omega
  · show 64 * (g.val % 8) + 64 ≤ 512; omega
  · show 16 * (g.val % 8) + 16 ≤ 128; omega

theorem cols_bb (k : Fin 64) : S16x2048.Slices ![0, 64 * (k.val / 2)] S16x64 :=
  ⟨rfl, Fin.forall_fin_two.mpr ⟨by show 0 + 16 ≤ 16; omega, by show 64 * (k.val / 2) + 64 ≤ 2048; omega⟩⟩

theorem cols_c (g : Fin 32) : S64x512.Slices ![0, 16 * g.val] S64x16 :=
  ⟨rfl, Fin.forall_fin_two.mpr ⟨by show 0 + 64 ≤ 64; omega, by show 16 * g.val + 16 ≤ 512; omega⟩⟩

/-- Store `k` of the input matrix: group `k / 2`, its real part where `k` is even, its imaginary part where it is odd. -/
def bbPiece (re im : FVec Ideal S16x2048 .bf16) (k : Fin 64) : View.Piece (Elt Ideal) S1x4x128x1024 .bf16 :=
  ⟨Rect.unit (s := S1x4x128x1024) ![0, k.val / 2 / 8, 16 * (k.val / 2 % 8), 512 * (k.val % 2) + 64 * (k.val / 2 % 8)] S1x1x16x64.size (in_bb k),
    (shapeCast S1x1x16x64 (extractStridedSlice S16x64 ![0, 64 * (k.val / 2)] (if k.val % 2 = 0 then re else im) (cols_bb k))
      shapeCasts_S16x64_S1x1x16x64 : FVec Ideal S1x1x16x64 .bf16)⟩

/-- The store of group `g` of an output matrix. -/
def cPiece (v : FVec Ideal S64x512 .bf16) (g : Fin 32) : View.Piece (Elt Ideal) S1x4x512x128 .bf16 :=
  ⟨Rect.unit (s := S1x4x512x128) ![0, g.val / 8, 64 * (g.val % 8), 16 * (g.val % 8)] S1x1x64x16.size (in_c g),
    (shapeCast S1x1x64x16 (extractStridedSlice S64x16 ![0, 16 * g.val] v (cols_c g)) shapeCasts_S64x16_S1x1x64x16 : FVec Ideal S1x1x64x16 .bf16)⟩

/-- The stores of the input matrix, the newest first, the zeros last. -/
def bbPieces (re im : FVec Ideal S16x2048 .bf16) : List (View.Piece (Elt Ideal) S1x4x128x1024 .bf16) :=
  (List.ofFn fun k => bbPiece re im k.rev) ++ [⟨Rect.unit (s := S1x4x128x1024) ![0, 0, 0, 0] S1x4x128x1024.size inb_S1x4x128x1024_S1x4x128x1024_0_0_0_0, k0_pay24 (F := Ideal)⟩]

/-- The stores of an output matrix, the newest first, the zeros last. -/
def cPieces (v : FVec Ideal S64x512 .bf16) : List (View.Piece (Elt Ideal) S1x4x512x128 .bf16) :=
  (List.ofFn fun g => cPiece v g.rev) ++ [⟨Rect.unit (s := S1x4x512x128) ![0, 0, 0, 0] S1x4x512x128.size inb_S1x4x512x128_S1x4x512x128_0_0_0_0, k0_pay25 (F := Ideal)⟩]

/-! ## What is left -/

section

variable (c : Dev nD) (i : grid0.Coords) (arg1 : Memref sig .tc .vmem S1x1x2048 .f32) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S1x16x2048 .f32) (harg4 : arg4.IsWhole)
  (arg5 : Memref sig .tc .vmem S1x16x2048 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x1x2048 .f32) (harg8 : arg8.IsWhole)
  (arg9 : Memref sig .tc .vmem S1x1x2048 .f32) (harg9 : arg9.IsWhole) (arg10 : Memref sig .tc .vmem S1x4x128x1024 .bf16) (harg10 : arg10.IsWhole) (arg11 : Memref sig .tc .vmem S1x4x512x128 .bf16) (harg11 : arg11.IsWhole) (arg12 : Memref sig .tc .vmem S1x4x512x128 .bf16) (harg12 : arg12.IsWhole)
  (arg13 : Memref sig .tc .vmem S1x15x128x512 .f32) (harg13 : arg13.IsWhole) (arg14 : Memref sig .tc .vmem S1x2048x128 .f32) (harg14 : arg14.IsWhole) (arg15 : Memref sig .tc .vmem S1x2048x128 .f32) (harg15 : arg15.IsWhole) (arg16 : Memref sig .tc .vmem S1x128x2x2816 .f32) (harg16 : arg16.IsWhole)
  (x0 x1 x2 : Vec Ideal S1x1x2048 .f32) (x3 x4 : Vec Ideal S1x16x2048 .f32) (x5 x6 : Vec Ideal S1x64x512 .f32)

/-- The real part of the transition. -/
theorem left7 :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = k0_pay18 (k0_pay10 x0 x1 x2) := by
  unfold out0_A_7
  rw [View.read_writes_junk_eq_canon]
  unfold kernelRun0_A
  dsimp only
  sl_unfold_run_names
  simp only [rd_line, rd_rows, rd_chans]
  exact canon_whole (S := S1x1x2048) (off := ![0, 0, 0]) (by funext a; fin_cases a <;> rfl) _ _

/-- The imaginary part of the transition. -/
theorem left8 :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = k0_pay19 (k0_pay7 x1) (k0_pay8 x2) (k0_pay9 x0 x2) := by
  unfold out0_A_8
  rw [View.read_writes_junk_eq_canon]
  unfold kernelRun0_A
  dsimp only
  sl_unfold_run_names
  simp only [rd_line, rd_rows, rd_chans]
  exact canon_whole (S := S1x1x2048) (off := ![0, 0, 0]) (by funext a; fin_cases a <;> rfl) _ _

/-- The input matrix. -/
theorem left9 :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = View.canon (bbPieces (bbRe x0 x1 x2 x3 x4) (bbIm x0 x1 x2 x3 x4)) := by
  unfold out0_A_9
  rw [View.read_writes_junk_eq_canon]
  unfold kernelRun0_A
  dsimp only
  sl_unfold_run_names
  simp only [rd_line, rd_rows, rd_chans]
  refine congrArg View.canon ?_
  sl_kernel_rfl

/-- The output matrix's real part. -/
theorem left10 :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = View.canon (cPieces (k0_pay22 x5)) := by
  unfold out0_A_10
  rw [View.read_writes_junk_eq_canon]
  unfold kernelRun0_A
  dsimp only
  sl_unfold_run_names
  simp only [rd_line, rd_rows, rd_chans]
  refine congrArg View.canon ?_
  sl_kernel_rfl

/-- The output matrix's imaginary part. -/
theorem left11 :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = View.canon (cPieces (k0_pay23 x6)) := by
  unfold out0_A_11
  rw [View.read_writes_junk_eq_canon]
  unfold kernelRun0_A
  dsimp only
  sl_unfold_run_names
  simp only [rd_line, rd_rows, rd_chans]
  refine congrArg View.canon ?_
  sl_kernel_rfl

/-- A state that starts at zero. -/
theorem left12 :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = k0_pay2 (F := Ideal) := by
  unfold out0_A_12
  rw [View.read_writes_junk_eq_canon]
  unfold kernelRun0_A
  dsimp only
  sl_unfold_run_names
  exact canon_whole (S := S1x15x128x512) (off := ![0, 0, 0, 0]) (by funext a; fin_cases a <;> rfl) _ _

/-- A state that starts at zero. -/
theorem left13 :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = k0_pay3 (F := Ideal) := by
  unfold out0_A_13
  rw [View.read_writes_junk_eq_canon]
  unfold kernelRun0_A
  dsimp only
  sl_unfold_run_names
  exact canon_whole (S := S1x2048x128) (off := ![0, 0, 0]) (by funext a; fin_cases a <;> rfl) _ _

/-- A state that starts at zero. -/
theorem left14 :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = k0_pay4 (F := Ideal) := by
  unfold out0_A_14
  rw [View.read_writes_junk_eq_canon]
  unfold kernelRun0_A
  dsimp only
  sl_unfold_run_names
  exact canon_whole (S := S1x2048x128) (off := ![0, 0, 0]) (by funext a; fin_cases a <;> rfl) _ _

/-- A state that starts at zero. -/
theorem left15 :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = k0_pay5 (F := Ideal) := by
  unfold out0_A_15
  rw [View.read_writes_junk_eq_canon]
  unfold kernelRun0_A
  dsimp only
  sl_unfold_run_names
  exact canon_whole (S := S1x128x2x2816) (off := ![0, 0, 0, 0]) (by funext a; fin_cases a <;> rfl) _ _

end

end Cert.Disc
-- ==== Proof.Disc.Spec.lean ====
/- The discretisation of one state in scalars: a state's eigenvalue and step give its transition, and with an entry of the
   input matrix that entry of the discretised one. -/
module

public import proofs.«01_k».proof.Proof.Disc.Left

@[expose] public section

set_option maxRecDepth 16384

noncomputable section

namespace Cert.Disc

open Cert.Kernel3Ideal Cert.Kernel3Ideal.Gen Idealize.ShloMosaic Idealize.ShloMosaic.TcCoe Idealize.SL.Sem

/-- The transition over one step: the exponential of eigenvalue times step. -/
def stepRe (re im ld : EReal) : EReal := Ideal.exp (re * Ideal.exp ld) * Ideal.cos (im * Ideal.exp ld)
@[inherit_doc stepRe]
def stepIm (re im ld : EReal) : EReal := Ideal.exp (re * Ideal.exp ld) * Ideal.sin (im * Ideal.exp ld)

/-- (transition - 1) / eigenvalue. -/
def gainRe (re im ld : EReal) : EReal :=
  Ideal.div ((stepRe re im ld - Ideal.ofBits .f32 0x3F800000#32) * re + stepIm re im ld * im) (re * re + im * im)
@[inherit_doc gainRe]
def gainIm (re im ld : EReal) : EReal :=
  Ideal.div (stepIm re im ld * re - (stepRe re im ld - Ideal.ofBits .f32 0x3F800000#32) * im) (re * re + im * im)

/-- That gain times an entry of the input matrix. -/
def inRe (re im ld br bi : EReal) : EReal := gainRe re im ld * br - gainIm re im ld * bi
@[inherit_doc inRe]
def inIm (re im ld br bi : EReal) : EReal := gainRe re im ld * bi + gainIm re im ld * br

/-! ## The kernel's arithmetic at an index -/

section
variable (x0 x1 x2 : Vec Ideal S1x1x2048 .f32) (x3 x4 : Vec Ideal S1x16x2048 .f32) (x5 : Vec Ideal S1x64x512 .f32)

/-- The real part of the transition that the kernel computes. -/
theorem stepRe_apply (s : Fin 2048) : k0_pay10 x0 x1 x2 (ix2 0 s) = stepRe (x0 (ix3 0 0 s)) (x1 (ix3 0 0 s)) (x2 (ix3 0 0 s)) := by
  unfold stepRe
  pointwise [k0_pay10, k0_pay9, k0_pay8, k0_pay7, k0_pay6]

/-- The imaginary part of the transition that the kernel computes. -/
theorem stepIm_apply (s : Fin 2048) : k0_pay11 (k0_pay7 x1) (k0_pay8 x2) (k0_pay9 x0 x2) (ix2 0 s) = stepIm (x0 (ix3 0 0 s)) (x1 (ix3 0 0 s)) (x2 (ix3 0 0 s)) := by
  unfold stepIm
  pointwise [k0_pay11, k0_pay9, k0_pay8, k0_pay7, k0_pay6]

/-- The first row a point leaves. -/
theorem left7_apply (s : Fin 2048) : k0_pay18 (k0_pay10 x0 x1 x2) (ix3 0 0 s) = stepRe (x0 (ix3 0 0 s)) (x1 (ix3 0 0 s)) (x2 (ix3 0 0 s)) := by
  rw [← stepRe_apply]
  pointwise [k0_pay18]

/-- The second row a point leaves. -/
theorem left8_apply (s : Fin 2048) : k0_pay19 (k0_pay7 x1) (k0_pay8 x2) (k0_pay9 x0 x2) (ix3 0 0 s) = stepIm (x0 (ix3 0 0 s)) (x1 (ix3 0 0 s)) (x2 (ix3 0 0 s)) := by
  rw [← stepIm_apply]
  pointwise [k0_pay19]

/-- The real part of the gain that the kernel computes. -/
theorem gainRe_apply (s : Fin 2048) : k0_pay14 (k0_pay6 x0) (k0_pay7 x1) (k0_pay8 x2) (k0_pay9 x0 x2) (k0_pay10 x0 x1 x2) (ix2 0 s)
    = gainRe (x0 (ix3 0 0 s)) (x1 (ix3 0 0 s)) (x2 (ix3 0 0 s)) := by
  unfold gainRe
  rw [← stepRe_apply, ← stepIm_apply]
  pointwise [k0_pay14, k0_pay13, k0_pay12, k0_pay7, k0_pay6]

/-- The imaginary part of the gain that the kernel computes. -/
theorem gainIm_apply (s : Fin 2048) : k0_pay15 (k0_pay6 x0) (k0_pay7 x1) (k0_pay8 x2) (k0_pay9 x0 x2) (k0_pay10 x0 x1 x2) (ix2 0 s)
    = gainIm (x0 (ix3 0 0 s)) (x1 (ix3 0 0 s)) (x2 (ix3 0 0 s)) := by
  unfold gainIm
  rw [← stepRe_apply, ← stepIm_apply]
  pointwise [k0_pay15, k0_pay13, k0_pay12, k0_pay7, k0_pay6]

/-- The real part of the input matrix that the kernel computes. -/
theorem bbRe_apply (d : Fin 16) (s : Fin 2048) : bbRe x0 x1 x2 x3 x4 (ix2 d s)
    = inRe (x0 (ix3 0 0 s)) (x1 (ix3 0 0 s)) (x2 (ix3 0 0 s)) (x3 (ix3 0 d s)) (x4 (ix3 0 d s)) := by
  unfold inRe
  rw [← gainRe_apply, ← gainIm_apply]
  pointwise [bbRe, k0_pay20, k0_pay16, k0_pay17]

/-- The imaginary part of the input matrix that the kernel computes. -/
theorem bbIm_apply (d : Fin 16) (s : Fin 2048) : bbIm x0 x1 x2 x3 x4 (ix2 d s)
    = inIm (x0 (ix3 0 0 s)) (x1 (ix3 0 0 s)) (x2 (ix3 0 0 s)) (x3 (ix3 0 d s)) (x4 (ix3 0 d s)) := by
  unfold inIm
  rw [← gainRe_apply, ← gainIm_apply]
  pointwise [bbIm, k0_pay21, k0_pay16, k0_pay17]

/-- The first output matrix is read as it is. -/
theorem ctRe_apply (n : Fin 64) (d : Fin 512) : k0_pay22 x5 (ix2 n d) = x5 (ix3 0 n d) := by
  pointwise [k0_pay22]

/-- The second output matrix is read as it is. -/
theorem ctIm_apply (n : Fin 64) (d : Fin 512) : k0_pay23 x5 (ix2 n d) = x5 (ix3 0 n d) := by
  pointwise [k0_pay23]

end

/-! ## The diagonal blocks, put together -/

/-- Two unit axes put before a block of an input matrix. -/
theorem block_bb (w : FVec Ideal S16x64 .bf16) (a : Fin 16) (b : Fin 64) :
    (shapeCast S1x1x16x64 w shapeCasts_S16x64_S1x1x16x64 : FVec Ideal S1x1x16x64 .bf16) (ix4 0 0 a b) = w (ix2 a b) := by
  pointwise

/-- Two unit axes put before a block of an output matrix. -/
theorem block_c (w : FVec Ideal S64x16 .bf16) (a : Fin 64) (b : Fin 16) :
    (shapeCast S1x1x64x16 w shapeCasts_S64x16_S1x1x64x16 : FVec Ideal S1x1x64x16 .bf16) (ix4 0 0 a b) = w (ix2 a b) := by
  pointwise

end Cert.Disc
-- ==== Proof.Disc.Diag.lean ====
/- The block-diagonal matrices the stores put together, at an index: the block's entry where row and column are of the same
   group, zero elsewhere. -/
module

public import proofs.«01_k».proof.Proof.Disc.Spec

@[expose] public section

set_option maxRecDepth 16384

noncomputable section

namespace Cert.Disc

open Cert.Kernel3Ideal Cert.Kernel3Ideal.Gen Idealize.ShloMosaic Idealize.ShloMosaic.TcCoe Idealize.SL.Sem

/-- A cut of 64 columns, at an index. -/
theorem cut_bb (w : FVec Ideal S16x2048 .bf16) (o : ℕ) (h : S16x2048.Slices ![0, o] S16x64) (a : Fin 16) (b : Fin 64) (s : Fin 2048) (hs : s.val = o + b.val) :
    (extractStridedSlice S16x64 ![0, o] w h : FVec Ideal S16x64 .bf16) (ix2 a b) = w (ix2 a s) := by
  unfold extractStridedSlice
  refine congrArg w (funext fun x => Fin.ext ?_)
  fin_cases x
  · show 0 + a.val = a.val; omega
  · exact hs.symm

/-- A cut of 16 columns, at an index. -/
theorem cut_c (w : FVec Ideal S64x512 .bf16) (o : ℕ) (h : S64x512.Slices ![0, o] S64x16) (a : Fin 64) (b : Fin 16) (s : Fin 512) (hs : s.val = o + b.val) :
    (extractStridedSlice S64x16 ![0, o] w h : FVec Ideal S64x16 .bf16) (ix2 a b) = w (ix2 a s) := by
  unfold extractStridedSlice
  refine congrArg w (funext fun x => Fin.ext ?_)
  fin_cases x
  · show 0 + a.val = a.val; omega
  · exact hs.symm

/-- The state that column `n` of band `i` meets in row `r`. -/
def stateOf (i : Fin 4) (r : Fin 128) (n : ℕ) : Fin 2048 := ⟨64 * (8 * i.val + r.val / 16) + n % 64, by have := i.isLt; have := r.isLt; omega⟩

/-- Where column `n` of band `i` meets row `r` of an output matrix. -/
def chanOf (i : Fin 4) (r : Fin 512) (n : ℕ) : Fin 512 := ⟨16 * (8 * i.val + r.val / 64) + n % 16, by have := i.isLt; have := r.isLt; omega⟩

/-- The input matrix: real half beside imaginary half, each block-diagonal. -/
def bbAt (re im : FVec Ideal S16x2048 .bf16) (y : S1x4x128x1024.Idx) : EReal :=
  (if (y 3).val < 512 then re else im) (ix2 ⟨(y 2).val % 16, by omega⟩ (stateOf (y 1) (y 2) (y 3).val))

/-- An output matrix, block-diagonal. -/
def cAt (v : FVec Ideal S64x512 .bf16) (y : S1x4x512x128.Idx) : EReal :=
  v (ix2 ⟨(y 2).val % 64, by omega⟩ (chanOf (y 1) (y 2) (y 3).val))

/-- The first store of the input matrix is of zeros. -/
theorem zero_bb (y : S1x4x128x1024.Idx) : k0_pay24 (F := Ideal) y = 0 := by
  show Ideal.ofBits .bf16 0x0000#16 = 0
  simp

/-- The first store of an output matrix is of zeros. -/
theorem zero_c (y : S1x4x512x128.Idx) : k0_pay25 (F := Ideal) y = 0 := by
  show Ideal.ofBits .bf16 0x0000#16 = 0
  simp

/-- The block of band `b`, group `g` in the band, and half `j`. -/
theorem block_digits {b g j : ℕ} (hg : g < 8) (hj : j < 2) :
    (2 * (8 * b + g) + j) / 2 / 8 = b ∧ (2 * (8 * b + g) + j) / 2 % 8 = g ∧ (2 * (8 * b + g) + j) % 2 = j := by
  have e : (2 * (8 * b + g) + j) / 2 = 8 * b + g := by omega
  rw [e]
  omega

/-- What the store of block `k` covers. -/
theorem mem_bb (re im : FVec Ideal S16x2048 .bf16) (k : Fin 64) (y : S1x4x128x1024.Idx) :
    y ∈ (bbPiece re im k).1.set ↔ (y 1).val = k.val / 2 / 8 ∧ (y 2).val / 16 = k.val / 2 % 8 ∧ (y 3).val / 64 = 8 * (k.val % 2) + k.val / 2 % 8 := by
  have h0 : (y 0).val < 1 := (y 0).isLt
  refine (Rect.mem_set_unit (inb := in_bb k)).trans ⟨fun h => ?_, fun h q => ?_⟩
  · have q1 : k.val / 2 / 8 ≤ (y 1).val ∧ (y 1).val < k.val / 2 / 8 + 1 := h 1
    have q2 : 16 * (k.val / 2 % 8) ≤ (y 2).val ∧ (y 2).val < 16 * (k.val / 2 % 8) + 16 := h 2
    have q3 : 512 * (k.val % 2) + 64 * (k.val / 2 % 8) ≤ (y 3).val ∧ (y 3).val < 512 * (k.val % 2) + 64 * (k.val / 2 % 8) + 64 := h 3
    omega
  · fin_cases q
    · show 0 ≤ (y 0).val ∧ (y 0).val < 0 + 1; omega
    · show k.val / 2 / 8 ≤ (y 1).val ∧ (y 1).val < k.val / 2 / 8 + 1; omega
    · show 16 * (k.val / 2 % 8) ≤ (y 2).val ∧ (y 2).val < 16 * (k.val / 2 % 8) + 16; omega
    · show 512 * (k.val % 2) + 64 * (k.val / 2 % 8) ≤ (y 3).val ∧ (y 3).val < 512 * (k.val % 2) + 64 * (k.val / 2 % 8) + 64; omega

/-- What the store of group `g` covers. -/
theorem mem_c (v : FVec Ideal S64x512 .bf16) (g : Fin 32) (y : S1x4x512x128.Idx) :
    y ∈ (cPiece v g).1.set ↔ (y 1).val = g.val / 8 ∧ (y 2).val / 64 = g.val % 8 ∧ (y 3).val / 16 = g.val % 8 := by
  have h0 : (y 0).val < 1 := (y 0).isLt
  refine (Rect.mem_set_unit (inb := in_c g)).trans ⟨fun h => ?_, fun h q => ?_⟩
  · have q1 : g.val / 8 ≤ (y 1).val ∧ (y 1).val < g.val / 8 + 1 := h 1
    have q2 : 64 * (g.val % 8) ≤ (y 2).val ∧ (y 2).val < 64 * (g.val % 8) + 64 := h 2
    have q3 : 16 * (g.val % 8) ≤ (y 3).val ∧ (y 3).val < 16 * (g.val % 8) + 16 := h 3
    omega
  · fin_cases q
    · show 0 ≤ (y 0).val ∧ (y 0).val < 0 + 1; omega
    · show g.val / 8 ≤ (y 1).val ∧ (y 1).val < g.val / 8 + 1; omega
    · show 64 * (g.val % 8) ≤ (y 2).val ∧ (y 2).val < 64 * (g.val % 8) + 64; omega
    · show 16 * (g.val % 8) ≤ (y 3).val ∧ (y 3).val < 16 * (g.val % 8) + 16; omega

/-- The input matrix after all the stores, at an index. -/
theorem canon_bb (re im : FVec Ideal S16x2048 .bf16) (y : S1x4x128x1024.Idx) :
    View.canon (bbPieces re im) y = if (y 2).val / 16 = (y 3).val % 512 / 64 then bbAt re im y else (0 : EReal) := by
  have h0 : (y 0).val < 1 := (y 0).isLt
  have h1 : (y 1).val < 4 := (y 1).isLt
  have h2 : (y 2).val < 128 := (y 2).isLt
  have h3 : (y 3).val < 1024 := (y 3).isLt
  split
  · rename_i h
    refine View.canon_append_of_pieces (Val := Elt Ideal) (e := .bf16) (bbAt re im) _ _ (fun p hp x => ?_) y ?_
    · obtain ⟨k', rfl⟩ := List.mem_ofFn.mp hp
      generalize k'.rev = k
      have hk := k.isLt
      obtain ⟨a, b, rfl⟩ : ∃ (a : Fin 16) (b : Fin 64), x = ix4 0 0 a b := ⟨x 2, x 3, funext fun q => by
        fin_cases q
        · exact Fin.ext (by have : (x 0).val < 1 := (x 0).isLt; show (x 0).val = 0; omega)
        · exact Fin.ext (by have : (x 1).val < 1 := (x 1).isLt; show (x 1).val = 0; omega)
        · rfl
        · rfl⟩
      have ha := a.isLt
      have hb := b.isLt
      refine (block_bb _ a b).trans ((cut_bb _ _ (cols_bb k) a b ⟨64 * (k.val / 2) + b.val, by omega⟩ rfl).trans ?_)
      unfold bbAt
      have e2 : (((bbPiece re im k).1.emb (ix4 0 0 a b)) 2).val = 16 * (k.val / 2 % 8) + 1 * a.val := rfl
      have e1 : (((bbPiece re im k).1.emb (ix4 0 0 a b)) 1).val = k.val / 2 / 8 + 1 * 0 := rfl
      have e3 : (((bbPiece re im k).1.emb (ix4 0 0 a b)) 3).val = 512 * (k.val % 2) + 64 * (k.val / 2 % 8) + 1 * b.val := rfl
      refine congr (if_congr ?_ rfl rfl) (congrArg₂ ix2 (Fin.ext ?_) (Fin.ext ?_))
      · rw [e3]; omega
      · show a.val = _ % 16
        rw [e2]; omega
      · show 64 * (k.val / 2) + b.val = 64 * (8 * _ + _ / 16) + _ % 64
        rw [e1, e2, e3]; omega
    · refine ⟨bbPiece re im ⟨2 * (8 * (y 1).val + (y 2).val / 16) + (y 3).val / 512, by omega⟩,
        List.mem_ofFn.mpr ⟨Fin.rev ⟨2 * (8 * (y 1).val + (y 2).val / 16) + (y 3).val / 512, by omega⟩, by rw [Fin.rev_rev]⟩, ?_⟩
      obtain ⟨d1, d2, d3⟩ := block_digits (b := (y 1).val) (g := (y 2).val / 16) (j := (y 3).val / 512) (by omega) (by omega)
      exact (mem_bb ..).mpr ⟨d1.symm, d2.symm, by dsimp only; rw [d2, d3]; omega⟩
  · rename_i h
    refine (canon_append_off _ y _ fun p hp hy => ?_).trans ?_
    · obtain ⟨k', rfl⟩ := List.mem_ofFn.mp hp
      generalize hk' : k'.rev = k at hy
      have hk := k.isLt
      have hq := (mem_bb ..).mp hy
      omega
    · rw [canon_whole (S := S1x4x128x1024) (off := ![0, 0, 0, 0]) (funext fun q => by fin_cases q <;> rfl)]
      exact zero_bb y

/-- An output matrix after all the stores, at an index. -/
theorem canon_c (v : FVec Ideal S64x512 .bf16) (y : S1x4x512x128.Idx) :
    View.canon (cPieces v) y = if (y 2).val / 64 = (y 3).val / 16 then cAt v y else (0 : EReal) := by
  have h0 : (y 0).val < 1 := (y 0).isLt
  have h1 : (y 1).val < 4 := (y 1).isLt
  have h2 : (y 2).val < 512 := (y 2).isLt
  have h3 : (y 3).val < 128 := (y 3).isLt
  split
  · rename_i h
    refine View.canon_append_of_pieces (Val := Elt Ideal) (e := .bf16) (cAt v) _ _ (fun p hp x => ?_) y ?_
    · obtain ⟨k', rfl⟩ := List.mem_ofFn.mp hp
      generalize k'.rev = k
      have hk := k.isLt
      obtain ⟨a, b, rfl⟩ : ∃ (a : Fin 64) (b : Fin 16), x = ix4 0 0 a b := ⟨x 2, x 3, funext fun q => by
        fin_cases q
        · exact Fin.ext (by have : (x 0).val < 1 := (x 0).isLt; show (x 0).val = 0; omega)
        · exact Fin.ext (by have : (x 1).val < 1 := (x 1).isLt; show (x 1).val = 0; omega)
        · rfl
        · rfl⟩
      have ha := a.isLt
      have hb := b.isLt
      refine (block_c _ a b).trans ((cut_c _ _ (cols_c k) a b ⟨16 * k.val + b.val, by omega⟩ rfl).trans ?_)
      unfold cAt
      have e2 : (((cPiece v k).1.emb (ix4 0 0 a b)) 2).val = 64 * (k.val % 8) + 1 * a.val := rfl
      have e1 : (((cPiece v k).1.emb (ix4 0 0 a b)) 1).val = k.val / 8 + 1 * 0 := rfl
      have e3 : (((cPiece v k).1.emb (ix4 0 0 a b)) 3).val = 16 * (k.val % 8) + 1 * b.val := rfl
      refine congrArg v (congrArg₂ ix2 (Fin.ext ?_) (Fin.ext ?_))
      · show a.val = _ % 64
        rw [e2]; omega
      · show 16 * k.val + b.val = 16 * (8 * _ + _ / 64) + _ % 16
        rw [e1, e2, e3]; omega
    · refine ⟨cPiece v ⟨8 * (y 1).val + (y 2).val / 64, by omega⟩,
        List.mem_ofFn.mpr ⟨Fin.rev ⟨8 * (y 1).val + (y 2).val / 64, by omega⟩, by rw [Fin.rev_rev]⟩, ?_⟩
      exact (mem_c ..).mpr ⟨by dsimp only; omega, by dsimp only; omega, by dsimp only; omega⟩
  · rename_i h
    refine (canon_append_off _ y _ fun p hp hy => ?_).trans ?_
    · obtain ⟨k', rfl⟩ := List.mem_ofFn.mp hp
      generalize hk' : k'.rev = k at hy
      have hk := k.isLt
      have hq := (mem_c ..).mp hy
      omega
    · rw [canon_whole (S := S1x4x512x128) (off := ![0, 0, 0, 0]) (funext fun q => by fin_cases q <;> rfl)]
      exact zero_c y

end Cert.Disc
-- ==== Proof.Disc.Arrays.lean ====
/- The launch's arrays: what the two points read of the arguments, one layer each, and the nine results at an index. -/
module

public import proofs.«01_k».proof.Proof.Disc.Diag

@[expose] public section

set_option maxRecDepth 16384

noncomputable section

namespace Cert.Disc

open Cert.Kernel3Ideal Cert.Kernel3Ideal.Gen Cert.Kernel3Ideal.Value Idealize.ShloMosaic Idealize.ShloMosaic.TcCoe Idealize.SL.Sem

/-! ## The arguments by state -/

/-- State `s` of all the groups is state `s % 64` of group `s / 64`. -/
def grp (s : Fin 2048) : Fin 32 := ⟨s.val / 64, by have := s.isLt; omega⟩
def sub (s : Fin 2048) : Fin 64 := ⟨s.val % 64, by omega⟩

def lane (a : Vec Ideal S2x32x64 .f32) (l : Fin 2) (s : Fin 2048) : EReal := a (ix3 l (grp s) (sub s))
def laneT (a : Vec Ideal S2x32 .f32) (l : Fin 2) (s : Fin 2048) : EReal := a (ix2 l (grp s))
def laneB (a : Vec Ideal S2x32x64x16 .f32) (l : Fin 2) (d : Fin 16) (s : Fin 2048) : EReal := a (ix4 l (grp s) (sub s) d)
def laneC (a : Vec Ideal S2x32x16x64 .f32) (l : Fin 2) (n : Fin 64) (h : Fin 512) : EReal :=
  a (ix4 l ⟨h.val / 16, by have := h.isLt; omega⟩ ⟨h.val % 16, by omega⟩ n)

/-- A value of each state, in one row. -/
theorem flat_apply (a : Vec Ideal S2x32x64 .f32) (l : Fin 2) (s : Fin 2048) :
    (shapeCast S2x1x2048 a shapeCasts_S2x32x64_S2x1x2048 : Vec Ideal S2x1x2048 .f32) (ix3 l 0 s) = lane a l s := by
  unfold lane
  pointwise
  rfl

/-- A value of each group, along its states in one row. -/
theorem flatT_apply (a : Vec Ideal S2x32 .f32) (l : Fin 2) (s : Fin 2048) :
    (shapeCast S2x1x2048 (broadcastInDim S2x32x64 ![0, 1, 2] bcast_S2x32x1_S2x32x64_0_1_2 (broadcastInDim S2x32x1 ![0, 1] bcast_S2x32_S2x32x1_0_1 a : Vec Ideal S2x32x1 .f32) : Vec Ideal S2x32x64 .f32)
      shapeCasts_S2x32x64_S2x1x2048 : Vec Ideal S2x1x2048 .f32) (ix3 l 0 s) = laneT a l s := by
  refine (flat_apply _ l s).trans ?_
  unfold lane laneT
  pointwise

/-- An input matrix of every group, its channels first and the states in one row. -/
theorem flatB_apply (a : Vec Ideal S2x32x64x16 .f32) (l : Fin 2) (d : Fin 16) (s : Fin 2048) :
    (shapeCast S2x16x2048 (transpose S2x16x32x64 [0, 3, 1, 2] a transposes_S2x32x64x16_S2x16x32x64_0_3_1_2 : Vec Ideal S2x16x32x64 .f32)
      shapeCasts_S2x16x32x64_S2x16x2048 : Vec Ideal S2x16x2048 .f32) (ix3 l d s) = laneB a l d s := by
  unfold laneB
  pointwise
  rfl

/-- An output matrix of every group, its states first and the channels in one row. -/
theorem flatC_apply (a : Vec Ideal S2x32x16x64 .f32) (l : Fin 2) (n : Fin 64) (h : Fin 512) :
    (shapeCast S2x64x512 (transpose S2x64x32x16 [0, 3, 1, 2] a transposes_S2x32x16x64_S2x64x32x16_0_3_1_2 : Vec Ideal S2x64x32x16 .f32)
      shapeCasts_S2x64x32x16_S2x64x512 : Vec Ideal S2x64x512 .f32) (ix3 l n h) = laneC a l n h := by
  unfold laneC
  pointwise

/-! ## What a point reads -/

variable (m : (ℓ : Loc nD τ sig) → Buf (Elt Ideal) ℓ)

/-- The real parts of the eigenvalues, as the launch reads them. -/
theorem V_v2 (c : Dev nD) : V m c main_v2 = (shapeCast S2x1x2048 (m ((c : Thread nD τ).loc main_arg0) : Vec Ideal S2x32x64 .f32) shapeCasts_S2x32x64_S2x1x2048 : Vec Ideal S2x1x2048 .f32) := by
  show StableHlo.after hostOps0 (fun b => m (c, b)) (Proc.devRef .tc main_v2) = _
  after_results_simp
  rfl

/-- The imaginary parts of the eigenvalues, as the launch reads them. -/
theorem V_v3 (c : Dev nD) : V m c main_v3 = (shapeCast S2x1x2048 (m ((c : Thread nD τ).loc main_arg1) : Vec Ideal S2x32x64 .f32) shapeCasts_S2x32x64_S2x1x2048 : Vec Ideal S2x1x2048 .f32) := by
  show StableHlo.after hostOps0 (fun b => m (c, b)) (Proc.devRef .tc main_v3) = _
  after_results_simp
  rfl

/-- The logarithms of the steps, as the launch reads them. -/
theorem V_v4 (c : Dev nD) : V m c main_v4 = (shapeCast S2x1x2048 (broadcastInDim S2x32x64 ![0, 1, 2] bcast_S2x32x1_S2x32x64_0_1_2 (broadcastInDim S2x32x1 ![0, 1] bcast_S2x32_S2x32x1_0_1 (m ((c : Thread nD τ).loc main_arg2) : Vec Ideal S2x32 .f32) : Vec Ideal S2x32x1 .f32) : Vec Ideal S2x32x64 .f32)
    shapeCasts_S2x32x64_S2x1x2048 : Vec Ideal S2x1x2048 .f32) := by
  show StableHlo.after hostOps0 (fun b => m (c, b)) (Proc.devRef .tc main_v4) = _
  after_results_simp
  rfl

/-- The real parts of the input matrices, as the launch reads them. -/
theorem V_v6 (c : Dev nD) : V m c main_v6 = (shapeCast S2x16x2048 (transpose S2x16x32x64 [0, 3, 1, 2] (m ((c : Thread nD τ).loc main_arg3) : Vec Ideal S2x32x64x16 .f32) transposes_S2x32x64x16_S2x16x32x64_0_3_1_2 : Vec Ideal S2x16x32x64 .f32)
    shapeCasts_S2x16x32x64_S2x16x2048 : Vec Ideal S2x16x2048 .f32) := by
  show StableHlo.after hostOps0 (fun b => m (c, b)) (Proc.devRef .tc main_v6) = _
  after_results_simp
  rfl

/-- The imaginary parts of the input matrices, as the launch reads them. -/
theorem V_v8 (c : Dev nD) : V m c main_v8 = (shapeCast S2x16x2048 (transpose S2x16x32x64 [0, 3, 1, 2] (m ((c : Thread nD τ).loc main_arg4) : Vec Ideal S2x32x64x16 .f32) transposes_S2x32x64x16_S2x16x32x64_0_3_1_2 : Vec Ideal S2x16x32x64 .f32)
    shapeCasts_S2x16x32x64_S2x16x2048 : Vec Ideal S2x16x2048 .f32) := by
  show StableHlo.after hostOps0 (fun b => m (c, b)) (Proc.devRef .tc main_v8) = _
  after_results_simp
  rfl

/-- The real parts of the output matrices, as the launch reads them. -/
theorem V_v10 (c : Dev nD) : V m c main_v10 = (shapeCast S2x64x512 (transpose S2x64x32x16 [0, 3, 1, 2] (m ((c : Thread nD τ).loc main_arg5) : Vec Ideal S2x32x16x64 .f32) transposes_S2x32x16x64_S2x64x32x16_0_3_1_2 : Vec Ideal S2x64x32x16 .f32)
    shapeCasts_S2x64x32x16_S2x64x512 : Vec Ideal S2x64x512 .f32) := by
  show StableHlo.after hostOps0 (fun b => m (c, b)) (Proc.devRef .tc main_v10) = _
  after_results_simp
  rfl

/-- The imaginary parts of the output matrices, as the launch reads them. -/
theorem V_v12 (c : Dev nD) : V m c main_v12 = (shapeCast S2x64x512 (transpose S2x64x32x16 [0, 3, 1, 2] (m ((c : Thread nD τ).loc main_arg6) : Vec Ideal S2x32x16x64 .f32) transposes_S2x32x16x64_S2x64x32x16_0_3_1_2 : Vec Ideal S2x64x32x16 .f32)
    shapeCasts_S2x64x32x16_S2x64x512 : Vec Ideal S2x64x512 .f32) := by
  show StableHlo.after hostOps0 (fun b => m (c, b)) (Proc.devRef .tc main_v12) = _
  after_results_simp
  rfl

/-- Point `l` of the two. -/
def pt (l : Fin 2) : Fin cfg0.N := ⟨l.val, by rw [show cfg0.N = 2 from N_0]; exact l.isLt⟩

/-! ## Where the blocks of a point are

Point `l` reads and writes row `l` of every array. -/

/-- At point `l` every window's block is block `l` of the first axis. -/
theorem index_pt : ∀ (w : Fin cfg0.W) (l : Fin 2) (a : Fin (cfg0.win w).shape.rank), (cfg0.win w).index (pt l) a = if a.val = 0 then l.val else 0 := by
  decide +kernel

/-- A block has one row. -/
theorem size_pt : ∀ (w : Fin cfg0.W) (a : Fin (cfg0.win w).shape.rank), a.val = 0 → (cfg0.win w).size a = 1 := by
  decide +kernel

/-- Every window is indexed by blocks. -/
theorem kind_pt : ∀ w : Fin cfg0.W, (cfg0.win w).kind = .blocked := by
  decide +kernel

/-- An element of point `l`'s block is in row `l` of the array, with every other coordinate as it is in the block. -/
theorem place (w : Fin cfg0.W) (l : Fin 2) (y) (a : Fin (cfg0.win w).shape.rank) :
    (((cfg0.win w).rect (pt l)).emb y a : ℕ) = if a.val = 0 then l.val + y a else (y a : ℕ) := by
  rw [Pipeline.Window.rect_emb_val _ _ _ _ (kind_pt w), index_pt]
  split
  · rename_i h
    rw [size_pt w a h]; omega
  · omega

/-- What point `l` reads of argument 0. -/
theorem iblk0 (c : Dev nD) (l : Fin 2) (s : Fin 2048) : (iblk m c 0 (pt l) : Vec Ideal S1x1x2048 .f32) (ix3 0 0 s) = lane (m ((c : Thread nD τ).loc main_arg0)) l s := by
  refine Eq.trans (?_ : _ = V m c main_v2 (ix3 l 0 s)) (by rw [V_v2, flat_apply])
  exact congrArg (V m c main_v2) (funext fun a => Fin.ext ((place 0 l _ a).trans (by fin_cases a <;> rfl)))

/-- What point `l` reads of argument 1. -/
theorem iblk1 (c : Dev nD) (l : Fin 2) (s : Fin 2048) : (iblk m c 1 (pt l) : Vec Ideal S1x1x2048 .f32) (ix3 0 0 s) = lane (m ((c : Thread nD τ).loc main_arg1)) l s := by
  refine Eq.trans (?_ : _ = V m c main_v3 (ix3 l 0 s)) (by rw [V_v3, flat_apply])
  exact congrArg (V m c main_v3) (funext fun a => Fin.ext ((place 1 l _ a).trans (by fin_cases a <;> rfl)))

/-- What point `l` reads of argument 2. -/
theorem iblk2 (c : Dev nD) (l : Fin 2) (s : Fin 2048) : (iblk m c 2 (pt l) : Vec Ideal S1x1x2048 .f32) (ix3 0 0 s) = laneT (m ((c : Thread nD τ).loc main_arg2)) l s := by
  refine Eq.trans (?_ : _ = V m c main_v4 (ix3 l 0 s)) (by rw [V_v4, flatT_apply])
  exact congrArg (V m c main_v4) (funext fun a => Fin.ext ((place 2 l _ a).trans (by fin_cases a <;> rfl)))

/-- What point `l` reads of argument 3. -/
theorem iblk3 (c : Dev nD) (l : Fin 2) (d : Fin 16) (s : Fin 2048) : (iblk m c 3 (pt l) : Vec Ideal S1x16x2048 .f32) (ix3 0 d s) = laneB (m ((c : Thread nD τ).loc main_arg3)) l d s := by
  refine Eq.trans (?_ : _ = V m c main_v6 (ix3 l d s)) (by rw [V_v6, flatB_apply])
  exact congrArg (V m c main_v6) (funext fun a => Fin.ext ((place 3 l _ a).trans (by fin_cases a <;> rfl)))

/-- What point `l` reads of argument 4. -/
theorem iblk4 (c : Dev nD) (l : Fin 2) (d : Fin 16) (s : Fin 2048) : (iblk m c 4 (pt l) : Vec Ideal S1x16x2048 .f32) (ix3 0 d s) = laneB (m ((c : Thread nD τ).loc main_arg4)) l d s := by
  refine Eq.trans (?_ : _ = V m c main_v8 (ix3 l d s)) (by rw [V_v8, flatB_apply])
  exact congrArg (V m c main_v8) (funext fun a => Fin.ext ((place 4 l _ a).trans (by fin_cases a <;> rfl)))

/-- What point `l` reads of argument 5. -/
theorem iblk5 (c : Dev nD) (l : Fin 2) (n : Fin 64) (h : Fin 512) : (iblk m c 5 (pt l) : Vec Ideal S1x64x512 .f32) (ix3 0 n h) = laneC (m ((c : Thread nD τ).loc main_arg5)) l n h := by
  refine Eq.trans (?_ : _ = V m c main_v10 (ix3 l n h)) (by rw [V_v10, flatC_apply])
  exact congrArg (V m c main_v10) (funext fun a => Fin.ext ((place 5 l _ a).trans (by fin_cases a <;> rfl)))

/-- What point `l` reads of argument 6. -/
theorem iblk6 (c : Dev nD) (l : Fin 2) (n : Fin 64) (h : Fin 512) : (iblk m c 6 (pt l) : Vec Ideal S1x64x512 .f32) (ix3 0 n h) = laneC (m ((c : Thread nD τ).loc main_arg6)) l n h := by
  refine Eq.trans (?_ : _ = V m c main_v12 (ix3 l n h)) (by rw [V_v12, flatC_apply])
  exact congrArg (V m c main_v12) (funext fun a => Fin.ext ((place 6 l _ a).trans (by fin_cases a <;> rfl)))

end Cert.Disc
-- ==== Proof.Disc.Ref.lean ====
/- The reference's nine results as steps, and each at an index. -/
module

public import proofs.«01_k».proof.Proof.Gen.Reference3Ideal.Run
public import proofs.«01_k».proof.Proof.Disc.Arrays

@[expose] public section

set_option maxRecDepth 16384

noncomputable section

namespace Cert.DiscRef

open Cert.Reference3Ideal Cert.Reference3Ideal.Gen Idealize.ShloMosaic Idealize.ShloMosaic.TcCoe Idealize.SL.Sem
open Cert.Disc (stepRe stepIm gainRe gainIm inRe inIm lane laneT laneB laneC grp sub stateOf chanOf)

section
variable (a0 a1 : FVec Ideal S2x32x64 .f32) (a2 : FVec Ideal S2x32 .f32) (a3 a4 : FVec Ideal S2x32x64x16 .f32) (a5 : FVec Ideal S2x32x16x64 .f32)

/-- The step size by state. -/
def dt : FVec Ideal S2x32x64 .f32 := broadcastInDim S2x32x64 ![0, 1, 2] bcast_S2x32x1_S2x32x64_0_1_2 (broadcastInDim S2x32x1 ![0, 1] bcast_S2x32_S2x32x1_0_1 (Host.exp a2))

/-- The transition. -/
def trRe : FVec Ideal S2x32x64 .f32 := mulf (Host.exp (mulf a0 (dt a2))) (Host.cos (mulf a1 (dt a2)))
@[inherit_doc trRe]
def trIm : FVec Ideal S2x32x64 .f32 := mulf (Host.exp (mulf a0 (dt a2))) (Host.sin (mulf a1 (dt a2)))

def ones : FVec Ideal S2x32x64 .f32 := broadcastInDim S2x32x64 ![] bcast_S_S2x32x64 (constant S_ .f32 0x3F800000#32)
def den : FVec Ideal S2x32x64 .f32 := addf (mulf a0 a0) (mulf a1 a1)

/-- (transition - 1) / eigenvalue. -/
def gRe : FVec Ideal S2x32x64 .f32 := Host.divf (addf (mulf (subf (trRe a0 a1 a2) ones) a0) (mulf (trIm a0 a1 a2) a1)) (den a0 a1)
@[inherit_doc gRe]
def gIm : FVec Ideal S2x32x64 .f32 := Host.divf (subf (mulf (trIm a0 a1 a2) a0) (mulf (subf (trRe a0 a1 a2) ones) a1)) (den a0 a1)

/-- A value of each state, along the channels of its group. -/
def along (v : FVec Ideal S2x32x64 .f32) : FVec Ideal S2x32x64x16 .f32 :=
  broadcastInDim S2x32x64x16 ![0, 1, 2, 3] bcast_S2x32x64x1_S2x32x64x16_0_1_2_3 (broadcastInDim S2x32x64x1 ![0, 1, 2] bcast_S2x32x64_S2x32x64x1_0_1_2 v)

/-- The discretised input matrices of the groups. -/
def matRe : FVec Ideal S2x32x64x16 .f32 := subf (mulf (along (gRe a0 a1 a2)) a3) (mulf (along (gIm a0 a1 a2)) a4)
@[inherit_doc matRe]
def matIm : FVec Ideal S2x32x64x16 .f32 := addf (mulf (along (gRe a0 a1 a2)) a4) (mulf (along (gIm a0 a1 a2)) a3)

/-- Whether row group and column group are the same. -/
def same : S8x1x8x1.Idx → BitVec 1 :=
  cmpi .eq (broadcastInDim S8x1x8x1 ![0, 1, 2, 3] bcast_S8x1x1x1_S8x1x8x1_0_1_2_3 (broadcastInDim S8x1x1x1 ![0] bcast_S8_S8x1x1x1_0 (iotaInDim S8 32 0)))
    (broadcastInDim S8x1x8x1 ![0, 1, 2, 3] bcast_S1x1x8x1_S8x1x8x1_0_1_2_3 (broadcastInDim S1x1x8x1 ![2] bcast_S8_S1x1x8x1_2 (iotaInDim S8 32 0)))

/-- The groups' input matrices on the diagonals of the bands. -/
def spread (M : FVec Ideal S2x32x64x16 .f32) : FVec Ideal S2x4x8x16x8x64 .f32 :=
  select (broadcastInDim S2x4x8x16x8x64 ![2, 3, 4, 5] bcast_S8x1x8x1_S2x4x8x16x8x64_2_3_4_5 same)
    (broadcastInDim S2x4x8x16x8x64 ![0, 1, 2, 3, 4, 5] bcast_S2x4x8x16x1x64_S2x4x8x16x8x64_0_1_2_3_4_5
      (shapeCast _ (transpose S2x32x16x64 [0, 1, 3, 2] M transposes_S2x32x64x16_S2x32x16x64_0_1_3_2) shapeCasts_S2x32x16x64_S2x4x8x16x1x64))
    (broadcastInDim S2x4x8x16x8x64 ![] bcast_S_S2x4x8x16x8x64 (id (constant S_ .f32 0x00000000#32)))

def diagB (M : FVec Ideal S2x32x64x16 .f32) : FVec Ideal S2x4x128x512 .f32 := shapeCast _ (spread M) shapeCasts_S2x4x8x16x8x64_S2x4x128x512

/-- The groups' output matrices on the diagonals of the bands. -/
def spreadC : FVec Ideal S2x4x8x64x8x16 .f32 :=
  select (broadcastInDim S2x4x8x64x8x16 ![2, 3, 4, 5] bcast_S8x1x8x1_S2x4x8x64x8x16_2_3_4_5 same)
    (broadcastInDim S2x4x8x64x8x16 ![0, 1, 2, 3, 4, 5] bcast_S2x4x8x64x1x16_S2x4x8x64x8x16_0_1_2_3_4_5
      (shapeCast _ (transpose S2x32x64x16 [0, 1, 3, 2] a5 transposes_S2x32x16x64_S2x32x64x16_0_1_3_2) shapeCasts_S2x32x64x16_S2x4x8x64x1x16))
    (broadcastInDim S2x4x8x64x8x16 ![] bcast_S_S2x4x8x64x8x16 (id (constant S_ .f32 0x00000000#32)))

def diagC : FVec Ideal S2x4x512x128 .bf16 := truncf .bf16 (shapeCast _ (spreadC a5) shapeCasts_S2x4x8x64x8x16_S2x4x512x128) bitsLt_bf16_f32

/-- The real half beside the imaginary half. -/
def both : FVec Ideal S2x4x128x1024 .bf16 :=
  truncf .bf16 (concatenate S2x4x128x1024 3 [⟨S2x4x128x512, diagB (matRe a0 a1 a2 a3 a4)⟩, ⟨S2x4x128x512, diagB (matIm a0 a1 a2 a3 a4)⟩]
    concatenates_S2x4x128x512_S2x4x128x512_S2x4x128x1024_d3) bitsLt_bf16_f32

/-! ## At an index -/

/-- The step size at an index. -/
theorem dt_apply (l : Fin 2) (g : Fin 32) (n : Fin 64) : dt a2 (ix3 l g n) = Ideal.exp (a2 (ix2 l g)) := by
  pointwise [dt]

/-- The transition's real part at an index. -/
theorem trRe_apply (l : Fin 2) (g : Fin 32) (n : Fin 64) : trRe a0 a1 a2 (ix3 l g n) = stepRe (a0 (ix3 l g n)) (a1 (ix3 l g n)) (a2 (ix2 l g)) := by
  unfold stepRe
  rw [← dt_apply a2 l g n]
  pointwise [trRe]

/-- The transition's imaginary part at an index. -/
theorem trIm_apply (l : Fin 2) (g : Fin 32) (n : Fin 64) : trIm a0 a1 a2 (ix3 l g n) = stepIm (a0 (ix3 l g n)) (a1 (ix3 l g n)) (a2 (ix2 l g)) := by
  unfold stepIm
  rw [← dt_apply a2 l g n]
  pointwise [trIm]

/-- The gain's real part at an index. -/
theorem gRe_apply (l : Fin 2) (g : Fin 32) (n : Fin 64) : gRe a0 a1 a2 (ix3 l g n) = gainRe (a0 (ix3 l g n)) (a1 (ix3 l g n)) (a2 (ix2 l g)) := by
  unfold gainRe
  rw [← trRe_apply, ← trIm_apply]
  pointwise [gRe, den, ones]

/-- The gain's imaginary part at an index. -/
theorem gIm_apply (l : Fin 2) (g : Fin 32) (n : Fin 64) : gIm a0 a1 a2 (ix3 l g n) = gainIm (a0 (ix3 l g n)) (a1 (ix3 l g n)) (a2 (ix2 l g)) := by
  unfold gainIm
  rw [← trRe_apply, ← trIm_apply]
  pointwise [gIm, den, ones]

/-- The input matrix's real part at an index. -/
theorem matRe_apply (l : Fin 2) (g : Fin 32) (n : Fin 64) (d : Fin 16) : matRe a0 a1 a2 a3 a4 (ix4 l g n d)
    = inRe (a0 (ix3 l g n)) (a1 (ix3 l g n)) (a2 (ix2 l g)) (a3 (ix4 l g n d)) (a4 (ix4 l g n d)) := by
  unfold inRe
  rw [← gRe_apply, ← gIm_apply]
  pointwise [matRe, along]

/-- The input matrix's imaginary part at an index. -/
theorem matIm_apply (l : Fin 2) (g : Fin 32) (n : Fin 64) (d : Fin 16) : matIm a0 a1 a2 a3 a4 (ix4 l g n d)
    = inIm (a0 (ix3 l g n)) (a1 (ix3 l g n)) (a2 (ix2 l g)) (a3 (ix4 l g n d)) (a4 (ix4 l g n d)) := by
  unfold inIm
  rw [← gRe_apply, ← gIm_apply]
  pointwise [matIm, along]

/-- The mask of the diagonal, at an index. -/
theorem same_apply (p q : Fin 8) : same (ix4 p 0 q 0) = if p = q then 1#1 else 0#1 := by
  revert p q
  decide +kernel

/-- The groups' input matrices on the diagonal, every axis apart. -/
theorem spread_apply (M : FVec Ideal S2x32x64x16 .f32) (l : Fin 2) (i : Fin 4) (p : Fin 8) (d : Fin 16) (q : Fin 8) (n : Fin 64) :
    spread M (ix6 l i p d q n) = if p = q then M (ix4 l ⟨8 * i.val + p.val, by omega⟩ n d) else (0 : EReal) := by
  have hs := same_apply p q
  pointwise [spread]
  rw [hs]
  split
  · refine congrArg (fun g => M (ix4 l g n d)) (Fin.ext ?_)
    show i.val * 8 + p.val = 8 * i.val + p.val
    omega
  · show Ideal.ofBits .f32 0x00000000#32 = (0 : EReal)
    simp

/-- The groups' output matrices on the diagonal, every axis apart. -/
theorem spreadC_apply (l : Fin 2) (i : Fin 4) (p : Fin 8) (n : Fin 64) (q : Fin 8) (d : Fin 16) :
    spreadC a5 (ix6 l i p n q d) = if p = q then a5 (ix4 l ⟨8 * i.val + p.val, by omega⟩ d n) else (0 : EReal) := by
  have hs := same_apply p q
  pointwise [spreadC]
  rw [hs]
  split
  · refine congrArg (fun g => a5 (ix4 l g d n)) (Fin.ext ?_)
    show i.val * 8 + p.val = 8 * i.val + p.val
    omega
  · show Ideal.ofBits .f32 0x00000000#32 = (0 : EReal)
    simp

/-- The bands' rows and columns, taken apart. -/
theorem diagB_apply (M : FVec Ideal S2x32x64x16 .f32) (l : Fin 2) (i : Fin 4) (r : Fin 128) (n : Fin 512) :
    diagB M (ix4 l i r n) = spread M (ix6 l i ⟨r.val / 16, by omega⟩ ⟨r.val % 16, by omega⟩ ⟨n.val / 64, by omega⟩ ⟨n.val % 64, by omega⟩) := by
  pointwise [diagB]

/-- The bands' rows and columns of an output matrix, taken apart. -/
theorem diagC_apply (l : Fin 2) (i : Fin 4) (r : Fin 512) (n : Fin 128) :
    diagC a5 (ix4 l i r n) = spreadC a5 (ix6 l i ⟨r.val / 64, by omega⟩ ⟨r.val % 64, by omega⟩ ⟨n.val / 16, by omega⟩ ⟨n.val % 16, by omega⟩) := by
  pointwise [diagC]

/-- The input matrix of a band at an index. -/
theorem diagB_at (M : FVec Ideal S2x32x64x16 .f32) (l : Fin 2) (i : Fin 4) (r : Fin 128) (n : Fin 512) :
    diagB M (ix4 l i r n) = if r.val / 16 = n.val / 64 then M (ix4 l ⟨8 * i.val + r.val / 16, by omega⟩ ⟨n.val % 64, by omega⟩ ⟨r.val % 16, by omega⟩) else (0 : EReal) :=
  (diagB_apply M l i r n).trans ((spread_apply M l i _ _ _ _).trans (if_congr Fin.ext_iff rfl rfl))

/-- The output matrix of a band at an index. -/
theorem diagC_at (l : Fin 2) (i : Fin 4) (r : Fin 512) (n : Fin 128) :
    diagC a5 (ix4 l i r n) = if r.val / 64 = n.val / 16 then laneC a5 l ⟨r.val % 64, by omega⟩ (chanOf i r n.val) else (0 : EReal) := by
  refine (diagC_apply a5 l i r n).trans ((spreadC_apply a5 l i _ _ _ _).trans (if_congr Fin.ext_iff ?_ rfl))
  unfold laneC
  refine congrArg₂ (fun g d => a5 (ix4 l g d _)) (Fin.ext ?_) (Fin.ext ?_)
  · show 8 * i.val + r.val / 64 = (16 * (8 * i.val + r.val / 64) + n.val % 16) / 16
    omega
  · show n.val % 16 = (16 * (8 * i.val + r.val / 64) + n.val % 16) % 16
    omega

/-- The state that a column of a band meets in a row, by group. -/
theorem grp_stateOf (i : Fin 4) (r : Fin 128) (n : ℕ) : grp (stateOf i r n) = ⟨8 * i.val + r.val / 16, by omega⟩ :=
  Fin.ext (by show (64 * (8 * i.val + r.val / 16) + n % 64) / 64 = 8 * i.val + r.val / 16; omega)

/-- The same state, by its number in the group. -/
theorem sub_stateOf (i : Fin 4) (r : Fin 128) (n : ℕ) : sub (stateOf i r n) = ⟨n % 64, by omega⟩ :=
  Fin.ext (by show (64 * (8 * i.val + r.val / 16) + n % 64) % 64 = n % 64; omega)

/-- The real half of the input matrix. -/
theorem both_re (l : Fin 2) (i : Fin 4) (r : Fin 128) (n : Fin 1024) (h : n.val < 512) :
    both a0 a1 a2 a3 a4 (ix4 l i r n) = if r.val / 16 = n.val % 512 / 64
      then inRe (lane a0 l (stateOf i r n.val)) (lane a1 l (stateOf i r n.val)) (laneT a2 l (stateOf i r n.val)) (laneB a3 l ⟨r.val % 16, by omega⟩ (stateOf i r n.val)) (laneB a4 l ⟨r.val % 16, by omega⟩ (stateOf i r n.val))
      else (0 : EReal) := by
  have e : both a0 a1 a2 a3 a4 (ix4 l i r n) = diagB (matRe a0 a1 a2 a3 a4) (ix4 l i r ⟨n.val, h⟩) :=
    concatenate_pair_apply_left (t := S2x4x128x1024) 3 (diagB (matRe a0 a1 a2 a3 a4)) (diagB (matIm a0 a1 a2 a3 a4)) concatenates_S2x4x128x512_S2x4x128x512_S2x4x128x1024_d3 (ix4 l i r n) rfl (ix4 l i r ⟨n.val, h⟩ : S2x4x128x512.Idx)
      (fun b => by fin_cases b <;> rfl)
  rw [e, diagB_at]
  refine if_congr (by dsimp only; omega) ?_ rfl
  rw [matRe_apply]
  unfold lane laneT laneB
  rw [grp_stateOf, sub_stateOf]

/-- The imaginary half of the input matrix. -/
theorem both_im (l : Fin 2) (i : Fin 4) (r : Fin 128) (n : Fin 1024) (h : ¬ n.val < 512) :
    both a0 a1 a2 a3 a4 (ix4 l i r n) = if r.val / 16 = n.val % 512 / 64
      then inIm (lane a0 l (stateOf i r n.val)) (lane a1 l (stateOf i r n.val)) (laneT a2 l (stateOf i r n.val)) (laneB a3 l ⟨r.val % 16, by omega⟩ (stateOf i r n.val)) (laneB a4 l ⟨r.val % 16, by omega⟩ (stateOf i r n.val))
      else (0 : EReal) := by
  have e : both a0 a1 a2 a3 a4 (ix4 l i r n) = diagB (matIm a0 a1 a2 a3 a4) (ix4 l i r ⟨n.val - 512, by omega⟩) :=
    concatenate_pair_apply_right (t := S2x4x128x1024) 3 (diagB (matRe a0 a1 a2 a3 a4)) (diagB (matIm a0 a1 a2 a3 a4)) concatenates_S2x4x128x512_S2x4x128x512_S2x4x128x1024_d3 (ix4 l i r n) rfl rfl (ix4 l i r ⟨n.val - 512, by omega⟩ : S2x4x128x512.Idx)
      (fun b hb => by
        fin_cases b
        · rfl
        · rfl
        · rfl
        · exact absurd rfl hb)
      (by show n.val - 512 + 512 = n.val; omega)
  rw [e, diagB_at]
  refine if_congr (by dsimp only; omega) ?_ rfl
  rw [matIm_apply]
  unfold lane laneT laneB
  rw [grp_stateOf, sub_stateOf]
  have hn : (⟨(n.val - 512) % 64, by omega⟩ : Fin 64) = ⟨n.val % 64, by omega⟩ := Fin.ext (by dsimp only; omega)
  rw [hn]

/-- The transition, one row per layer. -/
def rowRe : FVec Ideal S2x1x2048 .f32 := shapeCast _ (trRe a0 a1 a2) shapeCasts_S2x32x64_S2x1x2048
@[inherit_doc rowRe]
def rowIm : FVec Ideal S2x1x2048 .f32 := shapeCast _ (trIm a0 a1 a2) shapeCasts_S2x32x64_S2x1x2048

/-- The transition's real part, in one row. -/
theorem rowRe_apply (l : Fin 2) (s : Fin 2048) : rowRe a0 a1 a2 (ix3 l 0 s) = stepRe (lane a0 l s) (lane a1 l s) (laneT a2 l s) :=
  (Disc.flat_apply (trRe a0 a1 a2) l s).trans (trRe_apply a0 a1 a2 l _ _)

/-- The transition's imaginary part, in one row. -/
theorem rowIm_apply (l : Fin 2) (s : Fin 2048) : rowIm a0 a1 a2 (ix3 l 0 s) = stepIm (lane a0 l s) (lane a1 l s) (laneT a2 l s) :=
  (Disc.flat_apply (trIm a0 a1 a2) l s).trans (trIm_apply a0 a1 a2 l _ _)

end

/-- The reference's run, its results as the steps above. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = rowRe (m ((c.tc : Thread nD τ).loc main_arg0)) (m ((c.tc : Thread nD τ).loc main_arg1)) (m ((c.tc : Thread nD τ).loc main_arg2))
      ∧ r.2.mem ((c.tc : Thread nD τ).loc main_v64) = rowIm (m ((c.tc : Thread nD τ).loc main_arg0)) (m ((c.tc : Thread nD τ).loc main_arg1)) (m ((c.tc : Thread nD τ).loc main_arg2))
      ∧ r.2.mem ((c.tc : Thread nD τ).loc main_v65) = both (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v77) = diagC (m ((c.tc : Thread nD τ).loc main_arg5))
      ∧ r.2.mem ((c.tc : Thread nD τ).loc main_v89) = diagC (m ((c.tc : Thread nD τ).loc main_arg6))
      ∧ r.2.mem ((c.tc : Thread nD τ).loc main_v90) = (broadcastInDim S2x15x128x512 ![] bcast_S_S2x15x128x512 (constant S_ .f32 0x00000000#32) : FVec Ideal S2x15x128x512 .f32)
      ∧ r.2.mem ((c.tc : Thread nD τ).loc main_v91) = (broadcastInDim S2x2048x128 ![] bcast_S_S2x2048x128 (constant S_ .f32 0x00000000#32) : FVec Ideal S2x2048x128 .f32)
      ∧ r.2.mem ((c.tc : Thread nD τ).loc main_v92) = (broadcastInDim S2x2048x128 ![] bcast_S_S2x2048x128 (constant S_ .f32 0x00000000#32) : FVec Ideal S2x2048x128 .f32)
      ∧ r.2.mem ((c.tc : Thread nD τ).loc main_v93) = (broadcastInDim S2x128x2x2816 ![] bcast_S_S2x128x2x2816 (constant S_ .f32 0x00000000#32) : FVec Ideal S2x128x2x2816 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, rest⟩ := h c
    refine ⟨h0.trans ?_, h1.trans ?_, h2.trans ?_, h3.trans ?_, h4.trans ?_, rest⟩
    · rfl
    · rfl
    · unfold Value.res_main_v65; rfl
    · rfl
    · rfl) (Value.run m ρ)

end Cert.DiscRef
-- ==== Proof.Disc.Results.lean ====
/- The nine results of the launch at an index. -/
module

public import proofs.«01_k».proof.Proof.Disc.Arrays

@[expose] public section

set_option maxRecDepth 16384

noncomputable section

namespace Cert.Disc

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

/-- The real part of the transition, in the array. -/
theorem entry7 (c : Dev nD) (l : Fin 2) (s : Fin 2048) :
    ((dats m 0 c).arrAt 7 cfg0.N : Vec Ideal S2x1x2048 .f32) (ix3 l 0 s) = stepRe (lane (m ((c : Thread nD τ).loc main_arg0)) l s) (lane (m ((c : Thread nD τ).loc main_arg1)) l s) (laneT (m ((c : Thread nD τ).loc main_arg2)) l s) := by
  have h := congrFun (blocks7 m c (pt l) (flush0_7 _)) (ix3 0 0 s)
  rw [View.read_apply, flushed7_A, left7] at h
  refine Eq.trans (congrArg ((dats m 0 c).arrAt 7 cfg0.N) (funext fun a => Fin.ext ((place 7 l _ a).trans (by fin_cases a <;> rfl)).symm)) (h.trans ?_)
  refine (left7_apply _ _ _ s).trans ?_
  rw [iblk0, iblk1, iblk2]

/-- The imaginary part of the transition, in the array. -/
theorem entry8 (c : Dev nD) (l : Fin 2) (s : Fin 2048) :
    ((dats m 0 c).arrAt 8 cfg0.N : Vec Ideal S2x1x2048 .f32) (ix3 l 0 s) = stepIm (lane (m ((c : Thread nD τ).loc main_arg0)) l s) (lane (m ((c : Thread nD τ).loc main_arg1)) l s) (laneT (m ((c : Thread nD τ).loc main_arg2)) l s) := by
  have h := congrFun (blocks8 m c (pt l) (flush0_8 _)) (ix3 0 0 s)
  rw [View.read_apply, flushed8_A, left8] at h
  refine Eq.trans (congrArg ((dats m 0 c).arrAt 8 cfg0.N) (funext fun a => Fin.ext ((place 8 l _ a).trans (by fin_cases a <;> rfl)).symm)) (h.trans ?_)
  refine (left8_apply _ _ _ s).trans ?_
  rw [iblk0, iblk1, iblk2]

/-- An entry of the discretised input matrices, of layer `l`. -/
def bRe (c : Dev nD) (l : Fin 2) (d : Fin 16) (s : Fin 2048) : EReal :=
  inRe (lane (m ((c : Thread nD τ).loc main_arg0)) l s) (lane (m ((c : Thread nD τ).loc main_arg1)) l s) (laneT (m ((c : Thread nD τ).loc main_arg2)) l s) (laneB (m ((c : Thread nD τ).loc main_arg3)) l d s) (laneB (m ((c : Thread nD τ).loc main_arg4)) l d s)
@[inherit_doc bRe]
def bIm (c : Dev nD) (l : Fin 2) (d : Fin 16) (s : Fin 2048) : EReal :=
  inIm (lane (m ((c : Thread nD τ).loc main_arg0)) l s) (lane (m ((c : Thread nD τ).loc main_arg1)) l s) (laneT (m ((c : Thread nD τ).loc main_arg2)) l s) (laneB (m ((c : Thread nD τ).loc main_arg3)) l d s) (laneB (m ((c : Thread nD τ).loc main_arg4)) l d s)

/-- The input matrix, in the array. -/
theorem entry9 (c : Dev nD) (l : Fin 2) (i : Fin 4) (r : Fin 128) (n : Fin 1024) :
    ((dats m 0 c).arrAt 9 cfg0.N : Vec Ideal S2x4x128x1024 .bf16) (ix4 l i r n) = if r.val / 16 = n.val % 512 / 64 then (if n.val < 512 then bRe m c l else bIm m c l) ⟨r.val % 16, by omega⟩ (stateOf i r n.val) else (0 : EReal) := by
  have h := congrFun (blocks9 m c (pt l) (flush0_9 _)) (ix4 0 i r n)
  rw [View.read_apply, flushed9_A, left9] at h
  refine Eq.trans (congrArg ((dats m 0 c).arrAt 9 cfg0.N) (funext fun a => Fin.ext ((place 9 l _ a).trans (by fin_cases a <;> rfl)).symm)) (h.trans ?_)
  refine (canon_bb _ _ (ix4 0 i r n)).trans (if_congr Iff.rfl ?_ rfl)
  show (if n.val < 512 then bbRe _ _ _ _ _ else bbIm _ _ _ _ _) (ix2 _ (stateOf i r n.val)) = _
  split
  · refine (bbRe_apply _ _ _ _ _ _ _).trans ?_
    rw [iblk0, iblk1, iblk2, iblk3, iblk4]
    rfl
  · refine (bbIm_apply _ _ _ _ _ _ _).trans ?_
    rw [iblk0, iblk1, iblk2, iblk3, iblk4]
    rfl

/-- The real part of the output matrix, in the array. -/
theorem entry10 (c : Dev nD) (l : Fin 2) (i : Fin 4) (r : Fin 512) (n : Fin 128) :
    ((dats m 0 c).arrAt 10 cfg0.N : Vec Ideal S2x4x512x128 .bf16) (ix4 l i r n) = if r.val / 64 = n.val / 16 then laneC (m ((c : Thread nD τ).loc main_arg5)) l ⟨r.val % 64, by omega⟩ (chanOf i r n.val) else (0 : EReal) := by
  have h := congrFun (blocks10 m c (pt l) (flush0_10 _)) (ix4 0 i r n)
  rw [View.read_apply, flushed10_A, left10] at h
  refine Eq.trans (congrArg ((dats m 0 c).arrAt 10 cfg0.N) (funext fun a => Fin.ext ((place 10 l _ a).trans (by fin_cases a <;> rfl)).symm)) (h.trans ?_)
  refine (canon_c _ (ix4 0 i r n)).trans (if_congr Iff.rfl ?_ rfl)
  exact (ctRe_apply _ _ _).trans (iblk5 m c l _ _)

/-- The imaginary part of the output matrix, in the array. -/
theorem entry11 (c : Dev nD) (l : Fin 2) (i : Fin 4) (r : Fin 512) (n : Fin 128) :
    ((dats m 0 c).arrAt 11 cfg0.N : Vec Ideal S2x4x512x128 .bf16) (ix4 l i r n) = if r.val / 64 = n.val / 16 then laneC (m ((c : Thread nD τ).loc main_arg6)) l ⟨r.val % 64, by omega⟩ (chanOf i r n.val) else (0 : EReal) := by
  have h := congrFun (blocks11 m c (pt l) (flush0_11 _)) (ix4 0 i r n)
  rw [View.read_apply, flushed11_A, left11] at h
  refine Eq.trans (congrArg ((dats m 0 c).arrAt 11 cfg0.N) (funext fun a => Fin.ext ((place 11 l _ a).trans (by fin_cases a <;> rfl)).symm)) (h.trans ?_)
  refine (canon_c _ (ix4 0 i r n)).trans (if_congr Iff.rfl ?_ rfl)
  exact (ctIm_apply _ _ _).trans (iblk6 m c l _ _)

/-- The zeros of the first state, in the array. -/
theorem entry12 (c : Dev nD) (l : Fin 2) (i : Fin 15) (j : Fin 128) (k : Fin 512) :
    ((dats m 0 c).arrAt 12 cfg0.N : Vec Ideal S2x15x128x512 .f32) (ix4 l i j k) = (0 : EReal) := by
  have h := congrFun (blocks12 m c (pt l) (flush0_12 _)) (ix4 0 i j k)
  rw [View.read_apply, flushed12_A, left12] at h
  refine Eq.trans (congrArg ((dats m 0 c).arrAt 12 cfg0.N) (funext fun a => Fin.ext ((place 12 l _ a).trans (by fin_cases a <;> rfl)).symm)) (h.trans ?_)
  show Ideal.ofBits .f32 0x00000000#32 = (0 : EReal)
  simp

/-- The zeros of the second state, in the array. -/
theorem entry13 (c : Dev nD) (l : Fin 2) (i : Fin 2048) (j : Fin 128) :
    ((dats m 0 c).arrAt 13 cfg0.N : Vec Ideal S2x2048x128 .f32) (ix3 l i j) = (0 : EReal) := by
  have h := congrFun (blocks13 m c (pt l) (flush0_13 _)) (ix3 0 i j)
  rw [View.read_apply, flushed13_A, left13] at h
  refine Eq.trans (congrArg ((dats m 0 c).arrAt 13 cfg0.N) (funext fun a => Fin.ext ((place 13 l _ a).trans (by fin_cases a <;> rfl)).symm)) (h.trans ?_)
  show Ideal.ofBits .f32 0x00000000#32 = (0 : EReal)
  simp

/-- The zeros of the third state, in the array. -/
theorem entry14 (c : Dev nD) (l : Fin 2) (i : Fin 2048) (j : Fin 128) :
    ((dats m 0 c).arrAt 14 cfg0.N : Vec Ideal S2x2048x128 .f32) (ix3 l i j) = (0 : EReal) := by
  have h := congrFun (blocks14 m c (pt l) (flush0_14 _)) (ix3 0 i j)
  rw [View.read_apply, flushed14_A, left14] at h
  refine Eq.trans (congrArg ((dats m 0 c).arrAt 14 cfg0.N) (funext fun a => Fin.ext ((place 14 l _ a).trans (by fin_cases a <;> rfl)).symm)) (h.trans ?_)
  show Ideal.ofBits .f32 0x00000000#32 = (0 : EReal)
  simp

/-- The zeros of the fourth state, in the array. -/
theorem entry15 (c : Dev nD) (l : Fin 2) (i : Fin 128) (j : Fin 2) (k : Fin 2816) :
    ((dats m 0 c).arrAt 15 cfg0.N : Vec Ideal S2x128x2x2816 .f32) (ix4 l i j k) = (0 : EReal) := by
  have h := congrFun (blocks15 m c (pt l) (flush0_15 _)) (ix4 0 i j k)
  rw [View.read_apply, flushed15_A, left15] at h
  refine Eq.trans (congrArg ((dats m 0 c).arrAt 15 cfg0.N) (funext fun a => Fin.ext ((place 15 l _ a).trans (by fin_cases a <;> rfl)).symm)) (h.trans ?_)
  show Ideal.ofBits .f32 0x00000000#32 = (0 : EReal)
  simp

end Cert.Disc
-- ==== Proof.Disc.Equal.lean ====
/- The discretisation and its reference end with the same nine results. -/
module

public import proofs.«01_k».proof.Defs
public import proofs.«01_k».proof.Proof.Disc.Ref
public import proofs.«01_k».proof.Proof.Disc.Results

@[expose] public section

set_option maxRecDepth 16384

noncomputable section

namespace Cert.Disc

open Idealize.ShloMosaic Idealize.ShloMosaic.TcCoe Idealize.SL.Sem

/-! ## The reference's results, from the kernel's memory -/

def res0 (m : (ℓ : Loc Kernel3Ideal.nD Kernel3Ideal.τ Kernel3Ideal.sig) → Buf (Elt Ideal) ℓ) (c : Dev Kernel3Ideal.nD) : FVec Ideal Kernel3Ideal.S2x1x2048 .f32 :=
  DiscRef.rowRe (m ((c : Thread Kernel3Ideal.nD Kernel3Ideal.τ).loc Kernel3Ideal.main_arg0)) (m ((c : Thread Kernel3Ideal.nD Kernel3Ideal.τ).loc Kernel3Ideal.main_arg1)) (m ((c : Thread Kernel3Ideal.nD Kernel3Ideal.τ).loc Kernel3Ideal.main_arg2))
def res1 (m : (ℓ : Loc Kernel3Ideal.nD Kernel3Ideal.τ Kernel3Ideal.sig) → Buf (Elt Ideal) ℓ) (c : Dev Kernel3Ideal.nD) : FVec Ideal Kernel3Ideal.S2x1x2048 .f32 :=
  DiscRef.rowIm (m ((c : Thread Kernel3Ideal.nD Kernel3Ideal.τ).loc Kernel3Ideal.main_arg0)) (m ((c : Thread Kernel3Ideal.nD Kernel3Ideal.τ).loc Kernel3Ideal.main_arg1)) (m ((c : Thread Kernel3Ideal.nD Kernel3Ideal.τ).loc Kernel3Ideal.main_arg2))
def res2 (m : (ℓ : Loc Kernel3Ideal.nD Kernel3Ideal.τ Kernel3Ideal.sig) → Buf (Elt Ideal) ℓ) (c : Dev Kernel3Ideal.nD) : FVec Ideal Kernel3Ideal.S2x4x128x1024 .bf16 :=
  DiscRef.both (m ((c : Thread Kernel3Ideal.nD Kernel3Ideal.τ).loc Kernel3Ideal.main_arg0)) (m ((c : Thread Kernel3Ideal.nD Kernel3Ideal.τ).loc Kernel3Ideal.main_arg1)) (m ((c : Thread Kernel3Ideal.nD Kernel3Ideal.τ).loc Kernel3Ideal.main_arg2)) (m ((c : Thread Kernel3Ideal.nD Kernel3Ideal.τ).loc Kernel3Ideal.main_arg3)) (m ((c : Thread Kernel3Ideal.nD Kernel3Ideal.τ).loc Kernel3Ideal.main_arg4))
def res3 (m : (ℓ : Loc Kernel3Ideal.nD Kernel3Ideal.τ Kernel3Ideal.sig) → Buf (Elt Ideal) ℓ) (c : Dev Kernel3Ideal.nD) : FVec Ideal Kernel3Ideal.S2x4x512x128 .bf16 :=
  DiscRef.diagC (m ((c : Thread Kernel3Ideal.nD Kernel3Ideal.τ).loc Kernel3Ideal.main_arg5))
def res4 (m : (ℓ : Loc Kernel3Ideal.nD Kernel3Ideal.τ Kernel3Ideal.sig) → Buf (Elt Ideal) ℓ) (c : Dev Kernel3Ideal.nD) : FVec Ideal Kernel3Ideal.S2x4x512x128 .bf16 :=
  DiscRef.diagC (m ((c : Thread Kernel3Ideal.nD Kernel3Ideal.τ).loc Kernel3Ideal.main_arg6))

/-- The zeros of a shape. -/
def zeros (s : Shape) : FVec Ideal s .f32 := fun _ => (0 : EReal)

/-- Array 0 of the kernel is the reference's. -/
theorem out0_eq (m : (ℓ : Loc Kernel3Ideal.nD Kernel3Ideal.τ Kernel3Ideal.sig) → Buf (Elt Ideal) ℓ) (c : Dev Kernel3Ideal.nD) : (Kernel3Ideal.Gen.dats m 0 c).arrAt 7 Kernel3Ideal.cfg0.N = res0 m c := by
  refine funext fun (y : Shape.Idx Kernel3Ideal.S2x1x2048) => ?_
  obtain ⟨l, i, j, rfl⟩ : ∃ l i j, y = ix3 l i j := ⟨y 0, y 1, y 2, by funext a; fin_cases a <;> rfl⟩
  rw [show i = (0 : Fin 1) from Subsingleton.elim _ _]
  exact (entry7 m c l j).trans (DiscRef.rowRe_apply _ _ _ l j).symm

/-- Array 1 of the kernel is the reference's. -/
theorem out1_eq (m : (ℓ : Loc Kernel3Ideal.nD Kernel3Ideal.τ Kernel3Ideal.sig) → Buf (Elt Ideal) ℓ) (c : Dev Kernel3Ideal.nD) : (Kernel3Ideal.Gen.dats m 0 c).arrAt 8 Kernel3Ideal.cfg0.N = res1 m c := by
  refine funext fun (y : Shape.Idx Kernel3Ideal.S2x1x2048) => ?_
  obtain ⟨l, i, j, rfl⟩ : ∃ l i j, y = ix3 l i j := ⟨y 0, y 1, y 2, by funext a; fin_cases a <;> rfl⟩
  rw [show i = (0 : Fin 1) from Subsingleton.elim _ _]
  exact (entry8 m c l j).trans (DiscRef.rowIm_apply _ _ _ l j).symm

/-- Array 2 of the kernel is the reference's. -/
theorem out2_eq (m : (ℓ : Loc Kernel3Ideal.nD Kernel3Ideal.τ Kernel3Ideal.sig) → Buf (Elt Ideal) ℓ) (c : Dev Kernel3Ideal.nD) : (Kernel3Ideal.Gen.dats m 0 c).arrAt 9 Kernel3Ideal.cfg0.N = res2 m c := by
  refine funext fun (y : Shape.Idx Kernel3Ideal.S2x4x128x1024) => ?_
  obtain ⟨l, i, j, k, rfl⟩ : ∃ l i j k, y = ix4 l i j k := ⟨y 0, y 1, y 2, y 3, by funext a; fin_cases a <;> rfl⟩
  refine (entry9 m c l i j k).trans ?_
  by_cases h : k.val < 512
  · rw [if_pos h]
    exact (DiscRef.both_re _ _ _ _ _ l i j k h).symm
  · rw [if_neg h]
    exact (DiscRef.both_im _ _ _ _ _ l i j k h).symm

/-- Array 3 of the kernel is the reference's. -/
theorem out3_eq (m : (ℓ : Loc Kernel3Ideal.nD Kernel3Ideal.τ Kernel3Ideal.sig) → Buf (Elt Ideal) ℓ) (c : Dev Kernel3Ideal.nD) : (Kernel3Ideal.Gen.dats m 0 c).arrAt 10 Kernel3Ideal.cfg0.N = res3 m c := by
  refine funext fun (y : Shape.Idx Kernel3Ideal.S2x4x512x128) => ?_
  obtain ⟨l, i, j, k, rfl⟩ : ∃ l i j k, y = ix4 l i j k := ⟨y 0, y 1, y 2, y 3, by funext a; fin_cases a <;> rfl⟩
  exact (entry10 m c l i j k).trans (DiscRef.diagC_at _ l i j k).symm

/-- Array 4 of the kernel is the reference's. -/
theorem out4_eq (m : (ℓ : Loc Kernel3Ideal.nD Kernel3Ideal.τ Kernel3Ideal.sig) → Buf (Elt Ideal) ℓ) (c : Dev Kernel3Ideal.nD) : (Kernel3Ideal.Gen.dats m 0 c).arrAt 11 Kernel3Ideal.cfg0.N = res4 m c := by
  refine funext fun (y : Shape.Idx Kernel3Ideal.S2x4x512x128) => ?_
  obtain ⟨l, i, j, k, rfl⟩ : ∃ l i j k, y = ix4 l i j k := ⟨y 0, y 1, y 2, y 3, by funext a; fin_cases a <;> rfl⟩
  exact (entry11 m c l i j k).trans (DiscRef.diagC_at _ l i j k).symm

/-- Array 5 of the kernel is the reference's. -/
theorem out5_eq (m : (ℓ : Loc Kernel3Ideal.nD Kernel3Ideal.τ Kernel3Ideal.sig) → Buf (Elt Ideal) ℓ) (c : Dev Kernel3Ideal.nD) : (Kernel3Ideal.Gen.dats m 0 c).arrAt 12 Kernel3Ideal.cfg0.N = zeros Kernel3Ideal.S2x15x128x512 := by
  refine funext fun (y : Shape.Idx Kernel3Ideal.S2x15x128x512) => ?_
  obtain ⟨l, i, j, k, rfl⟩ : ∃ l i j k, y = ix4 l i j k := ⟨y 0, y 1, y 2, y 3, by funext a; fin_cases a <;> rfl⟩
  exact entry12 m c l i j k

/-- Array 6 of the kernel is the reference's. -/
theorem out6_eq (m : (ℓ : Loc Kernel3Ideal.nD Kernel3Ideal.τ Kernel3Ideal.sig) → Buf (Elt Ideal) ℓ) (c : Dev Kernel3Ideal.nD) : (Kernel3Ideal.Gen.dats m 0 c).arrAt 13 Kernel3Ideal.cfg0.N = zeros Kernel3Ideal.S2x2048x128 := by
  refine funext fun (y : Shape.Idx Kernel3Ideal.S2x2048x128) => ?_
  obtain ⟨l, i, j, rfl⟩ : ∃ l i j, y = ix3 l i j := ⟨y 0, y 1, y 2, by funext a; fin_cases a <;> rfl⟩
  exact entry13 m c l i j

/-- Array 7 of the kernel is the reference's. -/
theorem out7_eq (m : (ℓ : Loc Kernel3Ideal.nD Kernel3Ideal.τ Kernel3Ideal.sig) → Buf (Elt Ideal) ℓ) (c : Dev Kernel3Ideal.nD) : (Kernel3Ideal.Gen.dats m 0 c).arrAt 14 Kernel3Ideal.cfg0.N = zeros Kernel3Ideal.S2x2048x128 := by
  refine funext fun (y : Shape.Idx Kernel3Ideal.S2x2048x128) => ?_
  obtain ⟨l, i, j, rfl⟩ : ∃ l i j, y = ix3 l i j := ⟨y 0, y 1, y 2, by funext a; fin_cases a <;> rfl⟩
  exact entry14 m c l i j

/-- Array 8 of the kernel is the reference's. -/
theorem out8_eq (m : (ℓ : Loc Kernel3Ideal.nD Kernel3Ideal.τ Kernel3Ideal.sig) → Buf (Elt Ideal) ℓ) (c : Dev Kernel3Ideal.nD) : (Kernel3Ideal.Gen.dats m 0 c).arrAt 15 Kernel3Ideal.cfg0.N = zeros Kernel3Ideal.S2x128x2x2816 := by
  refine funext fun (y : Shape.Idx Kernel3Ideal.S2x128x2x2816) => ?_
  obtain ⟨l, i, j, k, rfl⟩ : ∃ l i j k, y = ix4 l i j k := ⟨y 0, y 1, y 2, y 3, by funext a; fin_cases a <;> rfl⟩
  exact entry15 m c l i j k

/-- A zero broadcast is the zeros. -/
theorem zeros_eq (s : Shape) (h : (⟨0, ![]⟩ : Shape).BroadcastsInDim s ![]) : broadcastInDim s ![] h (constant (⟨0, ![]⟩ : Shape) .f32 0x00000000#32) = zeros s :=
  funext fun _ => by
    show Ideal.ofBits .f32 0x00000000#32 = (0 : EReal)
    simp

/-- The kernel and the reference end with the same nine arrays, whatever the arguments. -/
theorem algebraic : Cert.algebraic_Kernel3Ideal_Reference3Ideal (hKernel3Ideal := Cert.Kernel3Ideal.Gen.facts) (hReference3Ideal := Cert.Reference3Ideal.Gen.facts) := by
  intro m g m' g' _ hm
  refine ⟨res0 m, res1 m, res2 m, res3 m, res4 m, fun _ => zeros _, fun _ => zeros _, fun _ => zeros _, fun _ => zeros _,
    (θ_run _ _ _).mono (fun _ h c => ?_) (Kernel3Ideal.Value.run_blocks m g), (θ_run _ _ _).mono (fun _ h c => ?_) (DiscRef.run_steps m' g')⟩
  · obtain ⟨h0, h1, h2, h3, h4, h5, h6, h7, h8, rest⟩ := h c
    exact ⟨h0.trans (out0_eq m c), h1.trans (out1_eq m c), h2.trans (out2_eq m c), h3.trans (out3_eq m c), h4.trans (out4_eq m c),
      h5.trans (out5_eq m c), h6.trans (out6_eq m c), h7.trans (out7_eq m c), h8.trans (out8_eq m c), rest⟩
  · obtain ⟨e0, e1, e2, e3, e4, e5, e6⟩ := hm c
    obtain ⟨h0, h1, h2, h3, h4, h5, h6, h7, h8, rest⟩ := h c
    refine ⟨h0.trans ?_, h1.trans ?_, h2.trans ?_, h3.trans ?_, h4.trans ?_, h5.trans (zeros_eq _ _), h6.trans (zeros_eq _ _), h7.trans (zeros_eq _ _), h8.trans (zeros_eq _ _), rest⟩
    · unfold res0; rw [e0, e1, e2]
    · unfold res1; rw [e0, e1, e2]
    · unfold res2; rw [e0, e1, e2, e3, e4]
    · unfold res3; rw [e5]
    · unfold res4; rw [e6]

end Cert.Disc
-- ==== Proof.lean ====
/- The claims of the feed-forward block, once for each layer: the two programs and the reference run to the end and leave their arguments as
   they were, the constant the kernel names is the product it stands for, and kernel and reference end with equal
   results; and the like of the discretisation of the state-space layers, which names no constant. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Ffn.Equal
public import proofs.«01_k».proof.Proof.Final.Equal
public import proofs.«01_k».proof.Proof.Disc.Equal
public import Idealize.ShloMosaic.Adequacy
public import Idealize.ShloMosaic.Init

@[expose] public section

noncomputable section

namespace Cert.Proof

open Idealize.ShloMosaic Idealize.SL.Sem

theorem frame_p2 : Cert.quiescent_Kernel2 (hKernel2 := Cert.Kernel2.Gen.facts) := fun m ρ _ => Cert.Kernel2.Gen.frame m ρ

theorem frame_pi2 : Cert.quiescent_Kernel2Ideal (hKernel2Ideal := Cert.Kernel2Ideal.Gen.facts) :=
  fun m ρ _ => Cert.Kernel2Ideal.Gen.frame m ρ

/-- The reference has no semaphore, so all of them end at zero. -/
theorem frame_ri2 : Cert.quiescent_Reference2Ideal (hReference2Ideal := Cert.Reference2Ideal.Gen.facts) := fun m ρ _ =>
  (θ_run Cert.Reference2Ideal.defs _ _).mono
    (fun r h => ⟨fun c => (h c).2.2, Idealize.ShloMosaic.sem_eq_zero_of_no_sems (by decide) r.2⟩)
    (Cert.Reference2Ideal.Value.run m ρ)

theorem preserves2 : Cert.preserves_Kernel2_Kernel2Ideal := IdealRules.named_const.statement _ _ _ _ _ rfl

theorem frame_p3 : Cert.quiescent_Kernel3 (hKernel3 := Cert.Kernel3.Gen.facts) := fun m ρ _ => Cert.Kernel3.Gen.frame m ρ

theorem frame_pi3 : Cert.quiescent_Kernel3Ideal (hKernel3Ideal := Cert.Kernel3Ideal.Gen.facts) :=
  fun m ρ _ => Cert.Kernel3Ideal.Gen.frame m ρ

/-- The reference has no semaphore, so all of them end at zero. -/
theorem frame_ri3 : Cert.quiescent_Reference3Ideal (hReference3Ideal := Cert.Reference3Ideal.Gen.facts) := fun m ρ _ =>
  (θ_run Cert.Reference3Ideal.defs _ _).mono
    (fun r h => ⟨fun c => (h c).2.2.2.2.2.2.2.2.2, Idealize.ShloMosaic.sem_eq_zero_of_no_sems (by decide) r.2⟩)
    (Cert.Reference3Ideal.Value.run m ρ)

theorem frame_p4 : Cert.quiescent_Kernel4 (hKernel4 := Cert.Kernel4.Gen.facts) := fun m ρ _ => Cert.Kernel4.Gen.frame m ρ

theorem frame_pi4 : Cert.quiescent_Kernel4Ideal (hKernel4Ideal := Cert.Kernel4Ideal.Gen.facts) :=
  fun m ρ _ => Cert.Kernel4Ideal.Gen.frame m ρ

/-- The reference has no semaphore, so all of them end at zero. -/
theorem frame_ri4 : Cert.quiescent_Reference4Ideal (hReference4Ideal := Cert.Reference4Ideal.Gen.facts) := fun m ρ _ =>
  (θ_run Cert.Reference4Ideal.defs _ _).mono
    (fun r h => ⟨fun c => (h c).2.2, Idealize.ShloMosaic.sem_eq_zero_of_no_sems (by decide) r.2⟩)
    (Cert.Reference4Ideal.Value.run m ρ)

theorem preserves4 : Cert.preserves_Kernel4_Kernel4Ideal := IdealRules.named_const.statement _ _ _ _ _ rfl

theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    frame_p2, frame_pi2, frame_ri2, frame_p3, frame_pi3, frame_ri3, frame_p4, frame_pi4, frame_ri4,
    preserves2, Cert.Ffn.algebraic, trivial, Cert.Disc.algebraic, preserves4, Cert.Final.algebraic⟩

end Cert.Proof

end
